-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) (main_arg1 : FVec F S_ .f32) (main_arg2 : FVec F S128x100000 .f32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_v6 : IVec S_ 1 := andi main_v3 main_v5
  let main_v7 : FVec F S128x100000 .f32 := Host.absf main_arg2
  let main_cst_1 : FVec F S_ .f32 := constant S_ .f32 0x7F800000#32
  let main_v8 : FVec F S128x100000 .f32 := broadcastInDim S128x100000 ![] bcast_S_S128x100000 main_cst_1
  let main_v9 : IVec S128x100000 1 := cmpf .olt main_v7 main_v8
  let main_c_2 : IVec S_ 1 := constantI S_ 1 1#1
  let main_v10 : IVec S_ 1 := (fun x v => Host.reduce IntOp.andi x v reducesTo_S128x100000_S_d0_1 h_S_) main_v9 main_c_2
  let main_v11 : IVec S_ 1 := andi main_v6 main_v10
  main_v11
-- ==== Kernel.lean ====
abbrev S128x100000 : Shape := ⟨2, ![128, 100000]⟩
abbrev S_ : Shape := ⟨0, ![]⟩
abbrev S16 : Shape := ⟨1, ![16]⟩
abbrev S1x1 : Shape := ⟨2, ![1, 1]⟩
abbrev S100000x128 : Shape := ⟨2, ![100000, 128]⟩
abbrev S12500x8x128 : Shape := ⟨3, ![12500, 8, 128]⟩
abbrev S256x128 : Shape := ⟨2, ![256, 128]⟩
abbrev S16x8x128 : Shape := ⟨3, ![16, 8, 128]⟩
abbrev S8x128 : Shape := ⟨2, ![8, 128]⟩
abbrev S1x1x16 : Shape := ⟨3, ![1, 1, 16]⟩
abbrev S1x16 : Shape := ⟨2, ![1, 16]⟩
abbrev S369x8x128 : Shape := ⟨3, ![369, 8, 128]⟩
abbrev S625x8x128 : Shape := ⟨3, ![625, 8, 128]⟩
abbrev S128 : Shape := ⟨1, ![128]⟩
abbrev S1x1x128 : Shape := ⟨3, ![1, 1, 128]⟩

abbrev nBuf : Table → Nat
  | .hbm => 16
  | .local .tc .vmem => 13
  | .local .tc .smem => 2
  | .local .scVector .vmem => 6
  | _ => 0

abbrev bufTy : (tb : Table) → Fin (nBuf tb) → BufTy
  | .hbm, ⟨0, _⟩ => ⟨S128x100000, .f32⟩
  | .hbm, ⟨1, _⟩ => ⟨S_, .f32⟩
  | .hbm, ⟨2, _⟩ => ⟨S128x100000, .f32⟩
  | .hbm, ⟨3, _⟩ => ⟨S_, .f32⟩
  | .hbm, ⟨4, _⟩ => ⟨S16, .f32⟩
  | .hbm, ⟨5, _⟩ => ⟨S_, .f32⟩
  | .hbm, ⟨6, _⟩ => ⟨S1x1, .f32⟩
  | .hbm, ⟨7, _⟩ => ⟨S100000x128, .f32⟩
  | .hbm, ⟨8, _⟩ => ⟨S12500x8x128, .f32⟩
  | .hbm, ⟨9, _⟩ => ⟨S100000x128, .f32⟩
  | .hbm, ⟨10, _⟩ => ⟨S12500x8x128, .f32⟩
  | .hbm, ⟨11, _⟩ => ⟨S256x128, .f32⟩
  | .hbm, ⟨12, _⟩ => ⟨S8x128, .f32⟩
  | .hbm, ⟨13, _⟩ => ⟨S12500x8x128, .f32⟩
  | .hbm, ⟨14, _⟩ => ⟨S100000x128, .f32⟩
  | .hbm, ⟨15, _⟩ => ⟨S128x100000, .f32⟩
  | .local .tc .vmem, ⟨0, _⟩ => ⟨S369x8x128, .f32⟩
  | .local .tc .vmem, ⟨1, _⟩ => ⟨S369x8x128, .f32⟩
  | .local .tc .vmem, ⟨2, _⟩ => ⟨S369x8x128, .f32⟩
  | .local .tc .vmem, ⟨3, _⟩ => ⟨S369x8x128, .f32⟩
  | .local .tc .vmem, ⟨4, _⟩ => ⟨S8x128, .f32⟩
  | .local .tc .vmem, ⟨5, _⟩ => ⟨S256x128, .f32⟩
  | .local .tc .vmem, ⟨6, _⟩ => ⟨S8x128, .f32⟩
  | .local .tc .vmem, ⟨7, _⟩ => ⟨S625x8x128, .f32⟩
  | .local .tc .vmem, ⟨8, _⟩ => ⟨S625x8x128, .f32⟩
  | .local .tc .vmem, ⟨9, _⟩ => ⟨S625x8x128, .f32⟩
  | .local .tc .vmem, ⟨10, _⟩ => ⟨S625x8x128, .f32⟩
  | .local .tc .vmem, ⟨11, _⟩ => ⟨S625x8x128, .f32⟩
  | .local .tc .vmem, ⟨12, _⟩ => ⟨S625x8x128, .f32⟩
  | .local .tc .smem, ⟨0, _⟩ => ⟨S1x1, .f32⟩
  | .local .tc .smem, ⟨1, _⟩ => ⟨S1x1, .f32⟩
  | .local .scVector .vmem, ⟨0, _⟩ => ⟨S16x8x128, .f32⟩
  | .local .scVector .vmem, ⟨1, _⟩ => ⟨S16x8x128, .f32⟩
  | .local .scVector .vmem, ⟨2, _⟩ => ⟨S16x8x128, .f32⟩
  | .local .scVector .vmem, ⟨3, _⟩ => ⟨S16x8x128, .f32⟩
  | .local .scVector .vmem, ⟨4, _⟩ => ⟨S16, .f32⟩
  | .local .scVector .vmem, ⟨5, _⟩ => ⟨S8x128, .f32⟩
  | _, _ => ⟨S128x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v5_scv : Ref sig .scVector := ⟨.hbm, 8, rfl⟩
abbrev main_v1_scv : Ref sig .scVector := ⟨.hbm, 4, rfl⟩
abbrev main_v7_scv : Ref sig .scVector := ⟨.hbm, 10, rfl⟩
abbrev main_v8_scv : Ref sig .scVector := ⟨.hbm, 11, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg3_0 : Ref sig .tc := ⟨.vmem, 7, rfl⟩
abbrev cc2_stg3_1 : Ref sig .tc := ⟨.vmem, 8, rfl⟩
abbrev cc2_stg4_0 : Ref sig .tc := ⟨.vmem, 9, rfl⟩
abbrev cc2_stg4_1 : Ref sig .tc := ⟨.vmem, 10, rfl⟩
abbrev cc2_stg5_0 : Ref sig .tc := ⟨.vmem, 11, rfl⟩
abbrev cc2_stg5_1 : Ref sig .tc := ⟨.vmem, 12, rfl⟩
abbrev cc1_stg0_0 : Ref sig .tc := ⟨.smem, 0, rfl⟩
abbrev cc2_stg2_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem5_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c7380_i32 : BitVec 32 := 7380#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c160_i32 v1
  let v3 : BitVec 32 := Scalar.addi c7380_i32 v2
  let c0_i32 : BitVec 32 := 0#32
  let v6 : BitVec 32 := Scalar.addi v3 c0_i32
  let c0_i32_0 : BitVec 32 := 0#32
  let c0_i32_1 : BitVec 32 := 0#32
  ![v6.toNat, 0, 0]
@[reducible] def k0_t1_loop : Scf.Loop 32 :=
  let c0_i32_15 : BitVec 32 := 0#32
  let c5_i32 : BitVec 32 := 5#32
  let v19 : BitVec 32 := Scalar.addi c0_i32_15 c5_i32
  let c1_i32 : BitVec 32 := 1#32
  ⟨c0_i32_15, v19, c1_i32⟩
def k0_off2 (i : grid0.Coords) (k0_t1 : Fin k0_t1_loop.trips) : Fin 3 → Nat :=
  let c7380_i32 : BitVec 32 := 7380#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c160_i32 v1
  let v3 : BitVec 32 := Scalar.addi c7380_i32 v2
  let c2_i32_134 : BitVec 32 := 2#32
  let c0_i32_15 : BitVec 32 := 0#32
  let c1_i32 : BitVec 32 := 1#32
  let arg16 : BitVec 32 := Scf.iv c0_i32_15 c1_i32 k0_t1
  let v278 : BitVec 32 := Scalar.muli c2_i32_134 arg16
  let c1_i32_135 : BitVec 32 := 1#32
  let v279 : BitVec 32 := Scalar.addi v278 c1_i32_135
  let c16_i32 : BitVec 32 := 16#32
  let v280 : BitVec 32 := Scalar.muli v279 c16_i32
  let v281 : BitVec 32 := Scalar.addi v3 v280
  let c0_i32_136 : BitVec 32 := 0#32
  let c0_i32_137 : BitVec 32 := 0#32
  ![v281.toNat, 0, 0]
def k0_off3 (i : grid0.Coords) (k0_t1 : Fin k0_t1_loop.trips) : Fin 3 → Nat :=
  let c7380_i32 : BitVec 32 := 7380#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c160_i32 v1
  let v3 : BitVec 32 := Scalar.addi c7380_i32 v2
  let c2_i32_134 : BitVec 32 := 2#32
  let c0_i32_15 : BitVec 32 := 0#32
  let c1_i32 : BitVec 32 := 1#32
  let arg16 : BitVec 32 := Scf.iv c0_i32_15 c1_i32 k0_t1
  let v278 : BitVec 32 := Scalar.muli c2_i32_134 arg16
  let c16_i32_144 : BitVec 32 := 16#32
  let v286 : BitVec 32 := Scalar.muli v278 c16_i32_144
  let v287 : BitVec 32 := Scalar.addi v3 v286
  let c0_i32_145 : BitVec 32 := 0#32
  let c0_i32_146 : BitVec 32 := 0#32
  ![v287.toNat, 0, 0]
@[reducible] def k0_t2_loop : Scf.Loop 32 :=
  let c0_i32_153 : BitVec 32 := 0#32
  let c128_i32 : BitVec 32 := 128#32
  let v292 : BitVec 32 := Scalar.addi c0_i32_153 c128_i32
  let c1_i32_154 : BitVec 32 := 1#32
  ⟨c0_i32_153, v292, c1_i32_154⟩
def k0_off4 (k0_t2 : Fin k0_t2_loop.trips) : Fin 3 → Nat :=
  let c0_i32_173 : BitVec 32 := 0#32
  let c0_i32_153 : BitVec 32 := 0#32
  let c1_i32_154 : BitVec 32 := 1#32
  let arg25 : BitVec 32 := Scf.iv c0_i32_153 c1_i32_154 k0_t2
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v311 : Index := Scalar.indexCast v309
  let c7_i32_175 : BitVec 32 := 7#32
  let v310 : BitVec 32 := Scalar.andi v308 c7_i32_175
  let v312 : Index := Scalar.indexCast v310
  let c0_176 : Index := 0#32
  ![v311.toNat, v312.toNat, 0]
def k0_off5 (k0_t2 : Fin k0_t2_loop.trips) : Fin 3 → Nat :=
  let c0_i32_173 : BitVec 32 := 0#32
  let c0_i32_153 : BitVec 32 := 0#32
  let c1_i32_154 : BitVec 32 := 1#32
  let arg25 : BitVec 32 := Scf.iv c0_i32_153 c1_i32_154 k0_t2
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v323 : Index := Scalar.indexCast v309
  let c7_i32_175 : BitVec 32 := 7#32
  let v310 : BitVec 32 := Scalar.andi v308 c7_i32_175
  let v324 : Index := Scalar.indexCast v310
  let c16_178 : Index := 16#32
  ![v323.toNat, v324.toNat, 16]
def k0_off6 (k0_t2 : Fin k0_t2_loop.trips) : Fin 3 → Nat :=
  let c0_i32_173 : BitVec 32 := 0#32
  let c0_i32_153 : BitVec 32 := 0#32
  let c1_i32_154 : BitVec 32 := 1#32
  let arg25 : BitVec 32 := Scf.iv c0_i32_153 c1_i32_154 k0_t2
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v335 : Index := Scalar.indexCast v309
  let c7_i32_175 : BitVec 32 := 7#32
  let v310 : BitVec 32 := Scalar.andi v308 c7_i32_175
  let v336 : Index := Scalar.indexCast v310
  let c32_180 : Index := 32#32
  ![v335.toNat, v336.toNat, 32]
def k0_off7 (k0_t2 : Fin k0_t2_loop.trips) : Fin 3 → Nat :=
  let c0_i32_173 : BitVec 32 := 0#32
  let c0_i32_153 : BitVec 32 := 0#32
  let c1_i32_154 : BitVec 32 := 1#32
  let arg25 : BitVec 32 := Scf.iv c0_i32_153 c1_i32_154 k0_t2
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v347 : Index := Scalar.indexCast v309
  let c7_i32_175 : BitVec 32 := 7#32
  let v310 : BitVec 32 := Scalar.andi v308 c7_i32_175
  let v348 : Index := Scalar.indexCast v310
  let c48_182 : Index := 48#32
  ![v347.toNat, v348.toNat, 48]
def k0_off8 (k0_t2 : Fin k0_t2_loop.trips) : Fin 3 → Nat :=
  let c0_i32_173 : BitVec 32 := 0#32
  let c0_i32_153 : BitVec 32 := 0#32
  let c1_i32_154 : BitVec 32 := 1#32
  let arg25 : BitVec 32 := Scf.iv c0_i32_153 c1_i32_154 k0_t2
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v359 : Index := Scalar.indexCast v309
  let c7_i32_175 : BitVec 32 := 7#32
  let v310 : BitVec 32 := Scalar.andi v308 c7_i32_175
  let v360 : Index := Scalar.indexCast v310
  let c64_184 : Index := 64#32
  ![v359.toNat, v360.toNat, 64]
def k0_off9 (k0_t2 : Fin k0_t2_loop.trips) : Fin 3 → Nat :=
  let c0_i32_173 : BitVec 32 := 0#32
  let c0_i32_153 : BitVec 32 := 0#32
  let c1_i32_154 : BitVec 32 := 1#32
  let arg25 : BitVec 32 := Scf.iv c0_i32_153 c1_i32_154 k0_t2
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v371 : Index := Scalar.indexCast v309
  let c7_i32_175 : BitVec 32 := 7#32
  let v310 : BitVec 32 := Scalar.andi v308 c7_i32_175
  let v372 : Index := Scalar.indexCast v310
  let c80_186 : Index := 80#32
  ![v371.toNat, v372.toNat, 80]
def k0_off10 (k0_t2 : Fin k0_t2_loop.trips) : Fin 3 → Nat :=
  let c0_i32_173 : BitVec 32 := 0#32
  let c0_i32_153 : BitVec 32 := 0#32
  let c1_i32_154 : BitVec 32 := 1#32
  let arg25 : BitVec 32 := Scf.iv c0_i32_153 c1_i32_154 k0_t2
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v383 : Index := Scalar.indexCast v309
  let c7_i32_175 : BitVec 32 := 7#32
  let v310 : BitVec 32 := Scalar.andi v308 c7_i32_175
  let v384 : Index := Scalar.indexCast v310
  let c96_188 : Index := 96#32
  ![v383.toNat, v384.toNat, 96]
def k0_off11 (k0_t2 : Fin k0_t2_loop.trips) : Fin 3 → Nat :=
  let c0_i32_173 : BitVec 32 := 0#32
  let c0_i32_153 : BitVec 32 := 0#32
  let c1_i32_154 : BitVec 32 := 1#32
  let arg25 : BitVec 32 := Scf.iv c0_i32_153 c1_i32_154 k0_t2
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v395 : Index := Scalar.indexCast v309
  let c7_i32_175 : BitVec 32 := 7#32
  let v310 : BitVec 32 := Scalar.andi v308 c7_i32_175
  let v396 : Index := Scalar.indexCast v310
  let c112_190 : Index := 112#32
  ![v395.toNat, v396.toNat, 112]
def k0_cond1 (k0_t1 : Fin k0_t1_loop.trips) : BitVec 1 :=
  let c2_i32_134 : BitVec 32 := 2#32
  let c0_i32_15 : BitVec 32 := 0#32
  let c1_i32 : BitVec 32 := 1#32
  let arg16 : BitVec 32 := Scf.iv c0_i32_15 c1_i32 k0_t1
  let v278 : BitVec 32 := Scalar.muli c2_i32_134 arg16
  let c2_i32_156 : BitVec 32 := 2#32
  let v294 : BitVec 32 := Scalar.addi v278 c2_i32_156
  let c10_i32 : BitVec 32 := 10#32
  let v295 : BitVec 1 := Scalar.cmpi .slt v294 c10_i32
  let v296 : BitVec 32 := Scalar.extui v295
  let c0_i32_157 : BitVec 32 := 0#32
  let v297 : BitVec 1 := Scalar.cmpi .ne v296 c0_i32_157
  v297

def k0_off12 (i : grid0.Coords) (k0_t1 : Fin k0_t1_loop.trips) : Fin 3 → Nat :=
  let c7380_i32 : BitVec 32 := 7380#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c160_i32 v1
  let v3 : BitVec 32 := Scalar.addi c7380_i32 v2
  let c2_i32_134 : BitVec 32 := 2#32
  let c0_i32_15 : BitVec 32 := 0#32
  let c1_i32 : BitVec 32 := 1#32
  let arg16 : BitVec 32 := Scf.iv c0_i32_15 c1_i32 k0_t1
  let v278 : BitVec 32 := Scalar.muli c2_i32_134 arg16
  let c2_i32_172 : BitVec 32 := 2#32
  let v307 : BitVec 32 := Scalar.addi v278 c2_i32_172
  let c16_i32_173 : BitVec 32 := 16#32
  let v308 : BitVec 32 := Scalar.muli v307 c16_i32_173
  let v309 : BitVec 32 := Scalar.addi v3 v308
  let c0_i32_174 : BitVec 32 := 0#32
  let c0_i32_175 : BitVec 32 := 0#32
  ![v309.toNat, 0, 0]
@[reducible] def k0_t3_loop : Scf.Loop 32 :=
  let c0_i32_168 : BitVec 32 := 0#32
  let c128_i32_169 : BitVec 32 := 128#32
  let v305 : BitVec 32 := Scalar.addi c0_i32_168 c128_i32_169
  let c1_i32_170 : BitVec 32 := 1#32
  ⟨c0_i32_168, v305, c1_i32_170⟩
def k0_off13 (k0_t3 : Fin k0_t3_loop.trips) : Fin 3 → Nat :=
  let c0_i32_173 : BitVec 32 := 0#32
  let c0_i32_168 : BitVec 32 := 0#32
  let c1_i32_170 : BitVec 32 := 1#32
  let arg25 : BitVec 32 := Scf.iv c0_i32_168 c1_i32_170 k0_t3
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v311 : Index := Scalar.indexCast v309
  let c7_i32_175 : BitVec 32 := 7#32
  let v310 : BitVec 32 := Scalar.andi v308 c7_i32_175
  let v312 : Index := Scalar.indexCast v310
  let c0_176 : Index := 0#32
  ![v311.toNat, v312.toNat, 0]
def k0_off14 (k0_t3 : Fin k0_t3_loop.trips) : Fin 3 → Nat :=
  let c0_i32_173 : BitVec 32 := 0#32
  let c0_i32_168 : BitVec 32 := 0#32
  let c1_i32_170 : BitVec 32 := 1#32
  let arg25 : BitVec 32 := Scf.iv c0_i32_168 c1_i32_170 k0_t3
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v323 : Index := Scalar.indexCast v309
  let c7_i32_175 : BitVec 32 := 7#32
  let v310 : BitVec 32 := Scalar.andi v308 c7_i32_175
  let v324 : Index := Scalar.indexCast v310
  let c16_178 : Index := 16#32
  ![v323.toNat, v324.toNat, 16]
def k0_off15 (k0_t3 : Fin k0_t3_loop.trips) : Fin 3 → Nat :=
  let c0_i32_173 : BitVec 32 := 0#32
  let c0_i32_168 : BitVec 32 := 0#32
  let c1_i32_170 : BitVec 32 := 1#32
  let arg25 : BitVec 32 := Scf.iv c0_i32_168 c1_i32_170 k0_t3
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v335 : Index := Scalar.indexCast v309
  let c7_i32_175 : BitVec 32 := 7#32
  let v310 : BitVec 32 := Scalar.andi v308 c7_i32_175
  let v336 : Index := Scalar.indexCast v310
  let c32_180 : Index := 32#32
  ![v335.toNat, v336.toNat, 32]
def k0_off16 (k0_t3 : Fin k0_t3_loop.trips) : Fin 3 → Nat :=
  let c0_i32_173 : BitVec 32 := 0#32
  let c0_i32_168 : BitVec 32 := 0#32
  let c1_i32_170 : BitVec 32 := 1#32
  let arg25 : BitVec 32 := Scf.iv c0_i32_168 c1_i32_170 k0_t3
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v347 : Index := Scalar.indexCast v309
  let c7_i32_175 : BitVec 32 := 7#32
  let v310 : BitVec 32 := Scalar.andi v308 c7_i32_175
  let v348 : Index := Scalar.indexCast v310
  let c48_182 : Index := 48#32
  ![v347.toNat, v348.toNat, 48]
def k0_off17 (k0_t3 : Fin k0_t3_loop.trips) : Fin 3 → Nat :=
  let c0_i32_173 : BitVec 32 := 0#32
  let c0_i32_168 : BitVec 32 := 0#32
  let c1_i32_170 : BitVec 32 := 1#32
  let arg25 : BitVec 32 := Scf.iv c0_i32_168 c1_i32_170 k0_t3
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v359 : Index := Scalar.indexCast v309
  let c7_i32_175 : BitVec 32 := 7#32
  let v310 : BitVec 32 := Scalar.andi v308 c7_i32_175
  let v360 : Index := Scalar.indexCast v310
  let c64_184 : Index := 64#32
  ![v359.toNat, v360.toNat, 64]
def k0_off18 (k0_t3 : Fin k0_t3_loop.trips) : Fin 3 → Nat :=
  let c0_i32_173 : BitVec 32 := 0#32
  let c0_i32_168 : BitVec 32 := 0#32
  let c1_i32_170 : BitVec 32 := 1#32
  let arg25 : BitVec 32 := Scf.iv c0_i32_168 c1_i32_170 k0_t3
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v371 : Index := Scalar.indexCast v309
  let c7_i32_175 : BitVec 32 := 7#32
  let v310 : BitVec 32 := Scalar.andi v308 c7_i32_175
  let v372 : Index := Scalar.indexCast v310
  let c80_186 : Index := 80#32
  ![v371.toNat, v372.toNat, 80]
def k0_off19 (k0_t3 : Fin k0_t3_loop.trips) : Fin 3 → Nat :=
  let c0_i32_173 : BitVec 32 := 0#32
  let c0_i32_168 : BitVec 32 := 0#32
  let c1_i32_170 : BitVec 32 := 1#32
  let arg25 : BitVec 32 := Scf.iv c0_i32_168 c1_i32_170 k0_t3
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v383 : Index := Scalar.indexCast v309
  let c7_i32_175 : BitVec 32 := 7#32
  let v310 : BitVec 32 := Scalar.andi v308 c7_i32_175
  let v384 : Index := Scalar.indexCast v310
  let c96_188 : Index := 96#32
  ![v383.toNat, v384.toNat, 96]
def k0_off20 (k0_t3 : Fin k0_t3_loop.trips) : Fin 3 → Nat :=
  let c0_i32_173 : BitVec 32 := 0#32
  let c0_i32_168 : BitVec 32 := 0#32
  let c1_i32_170 : BitVec 32 := 1#32
  let arg25 : BitVec 32 := Scf.iv c0_i32_168 c1_i32_170 k0_t3
  let c1_i32_172 : BitVec 32 := 1#32
  let v307 : BitVec 32 := Scalar.muli arg25 c1_i32_172
  let v308 : BitVec 32 := Scalar.addi c0_i32_173 v307
  let c3_i32_174 : BitVec 32 := 3#32
  let v309 : BitVec 32 := Scalar.shrui v308 c3_i32_174
  let v395 : Index := Scalar.indexCast v309
  let c7_i32_175 : BitVec 32 := 7#32
  let v310 : BitVec 32 := Scalar.andi v308 c7_i32_175
  let v396 : Index := Scalar.indexCast v310
  let c112_190 : Index := 112#32
  ![v395.toNat, v396.toNat, 112]
def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v277 : BitVec 32 := Scalar.muli v1 c8_i32
  let c0_i32_134_r1 : BitVec 32 := 0#32
  ![v277.toNat, 0]
abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S369x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S369x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .smem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S625x8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S625x8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S625x8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩

abbrev nBuf : Space → Nat
  | .hbm => 24
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S_, .f32⟩
  | .hbm, ⟨2, _⟩ => ⟨S128x100000, .f32⟩
  | .hbm, ⟨3, _⟩ => ⟨S_, .f32⟩
  | .hbm, ⟨4, _⟩ => ⟨S128x100000, .f32⟩
  | .hbm, ⟨5, _⟩ => ⟨S128x100000, .f32⟩
  | .hbm, ⟨6, _⟩ => ⟨S128x100000, .f32⟩
  | .hbm, ⟨7, _⟩ => ⟨S_, .f32⟩
  | .hbm, ⟨8, _⟩ => ⟨S128x100000, .f32⟩
  | .hbm, ⟨9, _⟩ => ⟨S128x100000, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S128x100000, .f32⟩
  | .hbm, ⟨17, _⟩ => ⟨S128x100000, .f32⟩
  | .hbm, ⟨18, _⟩ => ⟨S128x100000, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S128x100000, .f32⟩
  | .hbm, ⟨23, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Setup.lean ====
/- The program as the launch theorem sees it, the ghost state, the arrays, and what the handshakes of the one
   SparseCore call carry. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Pipeline.Value
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP [FloatOps F] : Labels := Pipeline.Sig Λ₀ (Fin 2) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays the SparseCore call reads and writes -/

abbrev xLoc (d : Dev nD) : Loc nD τ sig := (SparseCore.T d).loc main_v5
abbrev gLoc (d : Dev nD) : Loc nD τ sig := (SparseCore.T d).loc main_v7
abbrev sLoc (d : Dev nD) : Loc nD τ sig := (SparseCore.T d).loc main_v1
abbrev oLoc (d : Dev nD) : Loc nD τ sig := (SparseCore.T d).loc main_v8

abbrev xM : Memref sig .scVector .hbm S12500x8x128 .f32 := Memref.whole main_v5_scv
abbrev sM : Memref sig .scVector .hbm S16 .f32 := Memref.whole main_v1_scv
abbrev gM : Memref sig .scVector .hbm S12500x8x128 .f32 := Memref.whole main_v7_scv
abbrev oM : Memref sig .scVector .hbm S256x128 .f32 := Memref.whole main_v8_scv
abbrev a0M : Memref sig .scVector .vmem S16x8x128 .f32 := Memref.whole cc0_scratch0
abbrev a1M : Memref sig .scVector .vmem S16x8x128 .f32 := Memref.whole cc0_scratch1
abbrev g0M : Memref sig .scVector .vmem S16x8x128 .f32 := Memref.whole cc0_scratch2
abbrev g1M : Memref sig .scVector .vmem S16x8x128 .f32 := Memref.whole cc0_scratch3
abbrev svM : Memref sig .scVector .vmem S16 .f32 := Memref.whole cc0_scratch4
abbrev spM : Memref sig .scVector .vmem S8x128 .f32 := Memref.whole cc0_scratch5

/-- The array of partial sums in 32 blocks of 8 rows, one a tile. -/
theorem odiv : 32 ∣ S256x128.size 0 := ⟨8, rfl⟩
abbrev orow (w : Fin 32) : Rect S256x128 := Rect.part (s := S256x128) (a₀ := 0) odiv w
abbrev oRowSet (w : Fin 32) : Finset S256x128.Idx := ((oM).view.slice (orow w)).set

/-- The block of tile `i` of core `c`. -/
def wid (c : Fin 2) (i : Fin 16) : Fin 32 := ⟨2 * i.val + c.val, by omega⟩

/-- Core `c`'s share of an array every tile reads, tile `i`'s share of that, and its two halves (a copy into either
    buffer of a pair holds one). -/
abbrev qC (c : Fin 2) : PosShare TreeShare := Transfers.dealOf fullShare Finset.univ c
abbrev qT (c : Fin 2) (i : Fin 16) : PosShare TreeShare := Transfers.dealOf (qC c) Finset.univ i
abbrev qH (c : Fin 2) (i : Fin 16) (b : Fin 2) : PosShare TreeShare := Transfers.dealOf (qT c i) Finset.univ b

/-! ## The values: one lane's running sum -/

/-- The element at tile row `t`, sublane `s`, lane `l`. -/
def ix3 (t s l : ℕ) : S12500x8x128.Idx := fun
  | 0 => ⟨t % 12500, Nat.mod_lt _ (by decide)⟩
  | 1 => ⟨s % 8, Nat.mod_lt _ (by decide)⟩
  | 2 => ⟨l % 128, Nat.mod_lt _ (by decide)⟩
/-- The same in a buffer of 16 tile rows. -/
def ixB (t s l : ℕ) : S16x8x128.Idx := fun
  | 0 => ⟨t % 16, Nat.mod_lt _ (by decide)⟩
  | 1 => ⟨s % 8, Nat.mod_lt _ (by decide)⟩
  | 2 => ⟨l % 128, Nat.mod_lt _ (by decide)⟩
def ixS (l : ℕ) : S16.Idx := fun
  | 0 => ⟨l % 16, Nat.mod_lt _ (by decide)⟩
/-- Row `r`, lane `l` of the partial sums. -/
def ixO (r l : ℕ) : S256x128.Idx := fun
  | 0 => ⟨r % 256, Nat.mod_lt _ (by decide)⟩
  | 1 => ⟨l % 128, Nat.mod_lt _ (by decide)⟩

variable [FloatOps F]

/-- The term lane `l` adds at row `n` (tile row `n / 8`, sublane `n % 8`) from tile row `b`. -/
def term (x g : S12500x8x128.Idx → Elt F .f32) (s : S16.Idx → Elt F .f32) (b n l : ℕ) : F .f32 :=
  FloatOps.exp (FloatOps.addf (FloatOps.mulf (x (ix3 (b + n / 8) (n % 8) l)) (s (ixS l))) (g (ix3 (b + n / 8) (n % 8) l)))

/-- Lane `l`'s sum of the first `n` rows from tile row `b`. -/
def tAcc (x g : S12500x8x128.Idx → Elt F .f32) (s : S16.Idx → Elt F .f32) (b : ℕ) : ℕ → ℕ → F .f32
  | 0, _ => Scalar.ofBits .f32 0x00000000#32
  | n + 1, l => FloatOps.addf (tAcc x g s b n l) (term x g s b n l)

/-- The partial sums: row `r` holds those of tile `r / 8`'s 160 tile rows. -/
def PART (x g : S12500x8x128.Idx → Elt F .f32) (s : S16.Idx → Elt F .f32) : S256x128.Idx → Elt F .f32 := fun j =>
  tAcc x g s (7380 + 160 * ((j 0).val / 8)) 1280 (j 1).val

/-! ## What the handshakes carry -/

variable (xv gv : (d : Dev nD) → S12500x8x128.Idx → Elt F .f32) (sv : (d : Dev nD) → S16.Idx → Elt F .f32)
  (ov : (d : Dev nD) → S256x128.Idx → Elt F .f32)

abbrev xPts (d : Dev nD) (q : PosShare TreeShare) : sProp 𝕄 := xLoc d ↦{q} xv d
abbrev gPts (d : Dev nD) (q : PosShare TreeShare) : sProp 𝕄 := gLoc d ↦{q} gv d
abbrev sPts (d : Dev nD) (q : PosShare TreeShare) : sProp 𝕄 := sLoc d ↦{q} sv d
abbrev oRowPts (d : Dev nD) (w : Fin 32) (f : S256x128.Idx → Elt F .f32) : sProp 𝕄 := oLoc d ↦[oRowSet w]{fullShare} f

/-- What core `c` is handed, with `f` in its tiles' blocks of the partial sums. -/
abbrev stP (d : Dev nD) (c : Fin 2) (f : S256x128.Idx → Elt F .f32) : sProp 𝕄 :=
  iprop(xPts xv d (qC c) ∗ gPts gv d (qC c) ∗ sPts sv d (qC c) ∗ bigSep Finset.univ fun i : Fin 16 => oRowPts d (wid c i) f)
/-- What tile `i` of core `c` is handed. -/
abbrev goP (d : Dev nD) (c : Fin 2) (i : Fin 16) (f : S256x128.Idx → Elt F .f32) : sProp 𝕄 :=
  iprop(xPts xv d (qT c i) ∗ gPts gv d (qT c i) ∗ sPts sv d (qT c i) ∗ oRowPts d (wid c i) f)

def P : (K (F := F)).Pay (nD := nD) (Val := Elt F) (Name := ℕ) (U := UU) where
  st := fun q d c => match q with | 0 => stP xv gv sv d (Fin.cast nCore_zero c) (ov d)
  dn := fun q d c => match q with | 0 => stP xv gv sv d (Fin.cast nCore_zero c) (PART (xv d) (gv d) (sv d))
  go := fun q d c i => match q with | 0 => goP xv gv sv d (Fin.cast nCore_zero c) (Fin.cast nSub_zero i) (ov d)
  td := fun q d c i => match q with | 0 => goP xv gv sv d (Fin.cast nCore_zero c) (Fin.cast nSub_zero i) (PART (xv d) (gv d) (sv d))
  x := fun _ _ => iprop(emp)

instance P_storable : (P (F := F) xv gv sv ov).IsStorable where
  st q d c := match q with
    | 0 => (inferInstance : BI.Storable (upEmb : UEmb _ 𝕄) (stP xv gv sv d (Fin.cast nCore_zero c) (ov d)))
  dn q d c := match q with
    | 0 => (inferInstance : BI.Storable (upEmb : UEmb _ 𝕄) (stP xv gv sv d (Fin.cast nCore_zero c) (PART (xv d) (gv d) (sv d))))
  go q d c i := match q with
    | 0 => (inferInstance : BI.Storable (upEmb : UEmb _ 𝕄) (goP xv gv sv d (Fin.cast nCore_zero c) (Fin.cast nSub_zero i) (ov d)))
  td q d c i := match q with
    | 0 => (inferInstance : BI.Storable (upEmb : UEmb _ 𝕄)
      (goP xv gv sv d (Fin.cast nCore_zero c) (Fin.cast nSub_zero i) (PART (xv d) (gv d) (sv d))))

end Cert.KernelIdeal.Pf

end
-- ==== Proof.TcBody.lean ====
/- The two TensorCore kernels' bodies, one point of each. -/
module

public import proofs.«01_k».proof.Proof.Setup
public import Idealize.ShloMosaic.Lib.WritesUnit

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
/-- A whole memref's ownership, opened at its raw contents. -/
theorem owns_open {c : Thread nD τ} {sp : Space} {sh : Shape} {e : EltTy} {M : Memref sig c.2.kind sp sh e} (h : M.IsWhole)
    (q : PosShare TreeShare) (X : sh.Idx → Elt F e) :
    (owns c M q X : sProp 𝕄) = iprop(∃ f, ⌜M.view.read (Elt F) f = X⌝ ∗ (M.view.loc c ↦{q} f)) := by
  unfold owns; rw [h.set_eq_univ]

omit [FloatOps F] in
/-- A load of the whole shape reads the contents. -/
theorem readAt_all {c : Kind} {sp : Space} {sh : Shape} {e : EltTy} (v : View sig c sp sh e) (f : v.ty.Contents (Elt F)) (off : Fin sh.rank → ℕ)
    (ho : off = fun _ => 0) (inb : ∀ a, off a + sh.size a ≤ sh.size a) (X : sh.Idx → Elt F e) (h : v.read (Elt F) f = X) :
    v.readAt (Elt F) (Rect.unit (s := sh) off sh.size inb).toLoadRect f = X := by
  subst ho
  subst h; funext y; show v.read (Elt F) f _ = _; congr 1; funext a; exact Fin.ext (by show 0 + 1 * (y a).val = _; omega)

omit [FloatOps F] in
/-- A store of the whole shape leaves what it stored, whatever was stored before. -/
theorem read_all {c : Kind} {sp : Space} {sh : Shape} {e : EltTy} (v : View sig c sp sh e) (f : v.ty.Contents (Elt F)) (off : Fin sh.rank → ℕ)
    (ho : off = fun _ => 0) (inb : ∀ a, off a + sh.size a ≤ sh.size a) (X : sh.Idx → Elt F e) (l : List (View.Piece (Elt F) sh e)) :
    v.read (Elt F) (v.writes (Elt F) f (⟨Rect.unit (s := sh) off sh.size inb, X⟩ :: l)) = X := by
  subst ho
  funext y
  exact View.read_writes_cons_unit_of_mem v f inb X l y y rfl (fun a => (Nat.zero_add _).symm)

/-- What the first kernel's accumulator is left at by one point: the block's terms added to what it held, zeros at the first. -/
def stepA (i : grid1.Coords) (fs : S1x1.Idx → F .f32) (x g : S369x8x128.Idx → F .f32) (a : S8x128.Idx → F .f32) : S8x128.Idx → F .f32 :=
  k1_pay2 x (fs (fun a => ⟨0, by revert a; decide⟩)) g (if (i 0).val = 0 then k1_pay1 else a)

theorem runA (d : Dev nD) (i : grid1.Coords) (M1 : Memref sig .tc .smem S1x1 .f32) (h1 : M1.IsWhole) (M2 : Memref sig .tc .vmem S369x8x128 .f32) (h2 : M2.IsWhole)
    (M3 : Memref sig .tc .vmem S369x8x128 .f32) (h3 : M3.IsWhole) (M4 : Memref sig .tc .vmem S8x128 .f32) (h4 : M4.IsWhole)
    (fs : S1x1.Idx → F .f32) (x g : S369x8x128.Idx → F .f32) (a : S8x128.Idx → F .f32) (Q : PUnit → sProp 𝕄) :
    iprop(owns (T d) M1 fullShare fs ∗ owns (T d) M2 fullShare x ∗ owns (T d) M3 fullShare g ∗ owns (T d) M4 fullShare a
        ∗ ((owns (T d) M1 fullShare fs ∗ owns (T d) M2 fullShare x ∗ owns (T d) M3 fullShare g ∗ owns (T d) M4 fullShare (stepA i fs x g a)) -∗ Q ⟨⟩))
      ⊢ wp frame (wpE (defs₀ (F := F)) 𝒱₀ (T d) none) Set.univ (cc1__tc_a_body i M1 h1 M2 h2 M3 h3 M4 h4) Q := by
  rw [cc1__tc_a_body_eq_skeleton]; unfold cc1__tc_a_body_skel
  rw [owns_open h1, owns_open h2, owns_open h3, owns_open h4, owns_open h4]
  iintro ⟨⟨%f1, %e1, H1⟩, ⟨%f2, %e2, H2⟩, ⟨%f3, %e3, H3⟩, ⟨%f4, %e4, H4⟩, HK⟩
  unfold smemLoad smemLoadElt
  by_cases hc : Scalar.cmpi .ne (Scalar.extui (Scalar.cmpi .eq (BitVec.ofNat 32 (i 0).val) 0#32)) 0#32 = 1#1
  · sl_exec
    unfold runA.sl.v11 runA.sl.H4_1
    have h0 : (i 0).val = 0 := by
      by_contra h
      have hlt : (i 0).val < 20 := (i 0).isLt
      have : ∀ n : Fin 20, n.val ≠ 0 → ¬ Scalar.cmpi .ne (Scalar.extui (Scalar.cmpi .eq (BitVec.ofNat 32 n.val) 0#32)) 0#32 = 1#1 := by decide
      exact this ⟨_, hlt⟩ h hc
    have hv : stepA i fs x g a = k1_pay2 (View.readAt (Elt F) M2.view (Rect.unit ![0, 0, 0] S369x8x128.size inb_S369x8x128_S369x8x128_0_0_0).toLoadRect f2)
        (View.readAt (Elt F) M1.view (Rect.unit ![0, 0] S1x1.size inb_S1x1_S1x1_0_0).toLoadRect f1 (Shape.Idx.first (by decide)))
        (View.readAt (Elt F) M3.view (Rect.unit ![0, 0, 0] S369x8x128.size inb_S369x8x128_S369x8x128_0_0_0).toLoadRect f3)
        (M4.view.readCov [⟨Rect.unit ![0, 0] S8x128.size inb_S8x128_S8x128_0_0, k1_pay1⟩]
              (Rect.unit ![0, 0] S8x128.size inb_S8x128_S8x128_0_0).toLoadRect) := by
      unfold stepA
      rw [if_pos h0, readAt_all _ f2 _ (by decide) _ x e2, readAt_all _ f1 _ (by decide) _ fs e1, readAt_all _ f3 _ (by decide) _ g e3,
        show (M4.view.readCov [⟨Rect.unit ![0, 0] S8x128.size inb_S8x128_S8x128_0_0, k1_pay1⟩]
              (Rect.unit ![0, 0] S8x128.size inb_S8x128_S8x128_0_0).toLoadRect) = (k1_pay1 (F := F)) from
            readAt_all _ _ _ (by decide) _ _ (read_all M4.view _ _ (by decide) _ _ _)]
      rfl
    rw [wp_ret]
    imodintro
    iapply HK
    isplitl [H1]
    · iexists f1; isplitr
      · ipureintro; exact e1
      · iexact H1
    isplitl [H2]
    · iexists f2; isplitr
      · ipureintro; exact e2
      · iexact H2
    isplitl [H3]
    · iexists f3; isplitr
      · ipureintro; exact e3
      · iexact H3
    iexists _; isplitr
    rotate_left
    · iexact H4
    · ipureintro; exact (read_all M4.view f4 ![0, 0] (by decide) _ _ _).trans hv.symm
  · sl_exec
    have h0 : ¬ (i 0).val = 0 := fun h => hc (by rw [h]; decide)
    have hv : stepA i fs x g a = k1_pay2 (View.readAt (Elt F) M2.view (Rect.unit ![0, 0, 0] S369x8x128.size inb_S369x8x128_S369x8x128_0_0_0).toLoadRect f2)
        (View.readAt (Elt F) M1.view (Rect.unit ![0, 0] S1x1.size inb_S1x1_S1x1_0_0).toLoadRect f1 (Shape.Idx.first (by decide)))
        (View.readAt (Elt F) M3.view (Rect.unit ![0, 0, 0] S369x8x128.size inb_S369x8x128_S369x8x128_0_0_0).toLoadRect f3)
        (View.readAt (Elt F) M4.view (Rect.unit ![0, 0] S8x128.size inb_S8x128_S8x128_0_0).toLoadRect f4) := by
      unfold stepA
      rw [if_neg h0, readAt_all _ f2 _ (by decide) _ x e2, readAt_all _ f1 _ (by decide) _ fs e1, readAt_all _ f3 _ (by decide) _ g e3, readAt_all _ f4 _ (by decide) _ a e4]
      rfl
    rw [wp_ret]
    imodintro
    iapply HK
    isplitl [H1]
    · iexists f1; isplitr
      · ipureintro; exact e1
      · iexact H1
    isplitl [H2]
    · iexists f2; isplitr
      · ipureintro; exact e2
      · iexact H2
    isplitl [H3]
    · iexists f3; isplitr
      · ipureintro; exact e3
      · iexact H3
    iexists _; isplitr
    rotate_left
    · iexact H4
    · ipureintro; exact (read_all M4.view f4 ![0, 0] (by decide) _ _ _).trans hv.symm

/-- What the second kernel stores at one point. -/
def outB (fs : S1x1.Idx → F .f32) (p : S256x128.Idx → F .f32) (t : S8x128.Idx → F .f32) (x g : S625x8x128.Idx → F .f32) : S625x8x128.Idx → F .f32 :=
  k2_pay1 p t x (fs (fun a => ⟨0, by revert a; decide⟩)) g

theorem runB (d : Dev nD) (i : grid2.Coords) (M1 : Memref sig .tc .vmem S256x128 .f32) (h1 : M1.IsWhole) (M2 : Memref sig .tc .vmem S8x128 .f32) (h2 : M2.IsWhole)
    (M3 : Memref sig .tc .smem S1x1 .f32) (h3 : M3.IsWhole) (M4 : Memref sig .tc .vmem S625x8x128 .f32) (h4 : M4.IsWhole)
    (M5 : Memref sig .tc .vmem S625x8x128 .f32) (h5 : M5.IsWhole) (M6 : Memref sig .tc .vmem S625x8x128 .f32) (h6 : M6.IsWhole)
    (p : S256x128.Idx → F .f32) (t : S8x128.Idx → F .f32) (fs : S1x1.Idx → F .f32) (x g a : S625x8x128.Idx → F .f32) (Q : PUnit → sProp 𝕄) :
    iprop(owns (T d) M1 fullShare p ∗ owns (T d) M2 fullShare t ∗ owns (T d) M3 fullShare fs ∗ owns (T d) M4 fullShare x ∗ owns (T d) M5 fullShare g ∗ owns (T d) M6 fullShare a
        ∗ ((owns (T d) M1 fullShare p ∗ owns (T d) M2 fullShare t ∗ owns (T d) M3 fullShare fs ∗ owns (T d) M4 fullShare x ∗ owns (T d) M5 fullShare g
            ∗ owns (T d) M6 fullShare (outB fs p t x g)) -∗ Q ⟨⟩))
      ⊢ wp frame (wpE (defs₀ (F := F)) 𝒱₀ (T d) none) Set.univ (cc2__tc_b_body i M1 h1 M2 h2 M3 h3 M4 h4 M5 h5 M6 h6) Q := by
  rw [cc2__tc_b_body_eq_skeleton]; unfold cc2__tc_b_body_skel
  rw [owns_open h1, owns_open h2, owns_open h3, owns_open h4, owns_open h5, owns_open h6, owns_open h6]
  iintro ⟨⟨%f1, %e1, H1⟩, ⟨%f2, %e2, H2⟩, ⟨%f3, %e3, H3⟩, ⟨%f4, %e4, H4⟩, ⟨%f5, %e5, H5⟩, ⟨%f6, %e6, H6⟩, HK⟩
  unfold smemLoad smemLoadElt
  sl_exec
  rw [wp_ret]
  imodintro
  iapply HK
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  isplitl [H5]
  · iexists f5; isplitr
    · ipureintro; exact e5
    · iexact H5
  iexists _; isplitr
  rotate_left
  · iexact H6
  · ipureintro
    refine (read_all M6.view f6 ![0, 0, 0] (by decide) _ _ _).trans ?_
    unfold outB
    rw [readAt_all _ f1 _ (by decide) _ p e1, readAt_all _ f2 _ (by decide) _ t e2, readAt_all _ f3 _ (by decide) _ fs e3, readAt_all _ f4 _ (by decide) _ x e4,
      readAt_all _ f5 _ (by decide) _ g e5]
    rfl

end Cert.KernelIdeal.Pf

end
-- ==== Proof.TcA.lean ====
/- The first TensorCore kernel: its windows, its body at every point, and what it leaves. -/
module

public import proofs.«01_k».proof.Proof.TcBody

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A window no point cuts, whose body leaves it at its block, holds its block when the body starts. -/
theorem before_block {cfg : Pipeline.Cfg sig Λ₀} {d : Dev nD} (dat : Pipeline.Dat τ (Elt F) (HIx 1) ℕ UU ℕ cfg d) (w : Fin cfg.W)
    (hw : (cfg.win w).isOut = false) (hlive : ∀ i, cfg.idle w i = false) (hc : ∀ t a, (cfg.win w).clip (cfg.grid.coords t) a = none)
    (hkeep : ∀ t, (cfg.win w).cut (cfg.grid.coords t) (dat.after w t) = dat.blockOf w t) (t : Fin cfg.N) (z) :
    dat.before w t z = dat.after w t := by
  rw [dat.before_in_eq_fetched w hw hlive (fun t t' _ => funext fun a => (hc t a).trans (hc t' a).symm) hkeep]
  unfold Pipeline.Dat.fetched
  rw [Pipeline.fill_of_clip_none w _ (hc t) z (dat.after w t), ← hkeep t, Pipeline.Window.fill_cut]

/-- Block `n` of 369 tile rows. -/
def blkA (x : S12500x8x128.Idx → F .f32) (n : ℕ) : S369x8x128.Idx → F .f32 := fun j => x (ix3 (369 * n + (j 0).val) (j 1).val (j 2).val)

/-- The accumulator after the points up to `n`. -/
def accA (e : S1x1.Idx → F .f32) (x g : S12500x8x128.Idx → F .f32) : ℕ → S8x128.Idx → F .f32
  | 0 => k1_pay2 (blkA x 0) (e (fun a => ⟨0, by revert a; decide⟩)) (blkA g 0) k1_pay1
  | n + 1 => k1_pay2 (blkA x (n + 1)) (e (fun a => ⟨0, by revert a; decide⟩)) (blkA g (n + 1)) (accA e x g n)

/-- The pairs a wait of the device's TensorCore may have recorded by the end of the one call. -/
def recs (d : Dev nD) : Set (SemLoc sig × HIx 1) := {p | (K (F := F)).lev (T d, p.1) p.2 ≤ 8 * (SparseCore.Cfg.Blocks.fst (Q := 1) (N := 1) 1)}

/-- The first kernel's proof data. -/
def datA (e : S1x1.Idx → F .f32) (x g : S12500x8x128.Idx → F .f32) (o : S8x128.Idx → F .f32) (d : Dev nD) :
    Pipeline.Dat τ (Elt F) (HIx 1) ℕ UU ℕ cfg1 d where
  A := fun | 0 => e | 1 => x | 2 => g | 3 => o | ⟨_ + 4, h⟩ => absurd h (Nat.not_lt.2 (Nat.le_add_left _ _))
  after := fun
    | 0 => fun _ => e
    | 1 => fun t => blkA x t.val
    | 2 => fun t => blkA g t.val
    | 3 => fun t => accA e x g t.val
    | ⟨_ + 4, h⟩ => absurd h (Nat.not_lt.2 (Nat.le_add_left _ _))
  Φ := fun _ => Pipeline.scopedRest spec1 d
  q := fun _ => fullShare
  owed := fun _ => 0
  recorded := fun _ => recs (F := F) d

theorem coordA (t : Fin grid1.N) : (grid1.coords t 0).val = t.val := by revert t; decide

variable (e : S1x1.Idx → F .f32) (x g : S12500x8x128.Idx → F .f32) (o : S8x128.Idx → F .f32)

theorem beforeA0 (d : Dev nD) (t : Fin cfg1.N) (z) : (datA e x g o d).before 0 t z = e := by
  refine before_block (datA e x g o d) 0 rfl (fun _ => rfl) (by decide) (fun t => ?_) t z
  funext j
  refine congrArg e (funext fun a => Fin.ext ?_)
  have h1 := Pipeline.Window.rect_emb_val win1_0 t j a
  have h2 : win1_0.index t a = 0 := by revert a; revert t; decide
  rw [h2, zero_mul, zero_add] at h1
  exact h1.symm

/-- An element of block `t` of 369 tile rows, in the array. -/
theorem idxA (y : S12500x8x128.Idx) (j : S369x8x128.Idx) (t : ℕ) (ht : t < 20) (h0 : (y 0).val = t * 369 + (j 0).val) (h1 : (y 1).val = 0 * 8 + (j 1).val)
    (h2 : (y 2).val = 0 * 128 + (j 2).val) : ix3 (369 * t + (j 0).val) (j 1).val (j 2).val = y := by
  have b0 : (j 0).val < 369 := (j 0).isLt
  have b1 : (j 1).val < 8 := (j 1).isLt
  have b2 : (j 2).val < 128 := (j 2).isLt
  funext a; fin_cases a <;> refine Fin.ext ?_
  · show (369 * t + (j 0).val) % 12500 = (y 0).val
    rw [h0, Nat.mod_eq_of_lt (by omega)]; omega
  · show (j 1).val % 8 = (y 1).val
    rw [h1, Nat.mod_eq_of_lt b1]; omega
  · show (j 2).val % 128 = (y 2).val
    rw [h2, Nat.mod_eq_of_lt b2]; omega

theorem indexA1 (t : Fin grid1.N) : win1_1.index t 0 = t.val ∧ win1_1.index t 1 = 0 ∧ win1_1.index t 2 = 0 := by revert t; decide
theorem indexA2 (t : Fin grid1.N) : win1_2.index t 0 = t.val ∧ win1_2.index t 1 = 0 ∧ win1_2.index t 2 = 0 := by revert t; decide

theorem beforeA1 (d : Dev nD) (t : Fin cfg1.N) (z) : (datA e x g o d).before 1 t z = blkA x t.val := by
  refine before_block (datA e x g o d) 1 rfl (fun _ => rfl) (by decide) (fun t => ?_) t z
  funext j
  have ht : t.val < 20 := lt_of_lt_of_eq t.isLt N_1
  obtain ⟨i0, i1, i2⟩ := indexA1 t
  have h0 := Pipeline.Window.rect_emb_val win1_1 t j 0
  have h1 := Pipeline.Window.rect_emb_val win1_1 t j 1
  have h2 := Pipeline.Window.rect_emb_val win1_1 t j 2
  rw [i0] at h0; rw [i1] at h1; rw [i2] at h2
  exact congrArg x (idxA ((win1_1.rect t).emb j) (win1_1.xinj (grid1.coords t) j) t.val ht h0 h1 h2)

theorem beforeA2 (d : Dev nD) (t : Fin cfg1.N) (z) : (datA e x g o d).before 2 t z = blkA g t.val := by
  refine before_block (datA e x g o d) 2 rfl (fun _ => rfl) (by decide) (fun t => ?_) t z
  funext j
  have ht : t.val < 20 := lt_of_lt_of_eq t.isLt N_1
  obtain ⟨i0, i1, i2⟩ := indexA2 t
  have h0 := Pipeline.Window.rect_emb_val win1_2 t j 0
  have h1 := Pipeline.Window.rect_emb_val win1_2 t j 1
  have h2 := Pipeline.Window.rect_emb_val win1_2 t j 2
  rw [i0] at h0; rw [i1] at h1; rw [i2] at h2
  exact congrArg g (idxA ((win1_2.rect t).emb j) (win1_2.xinj (grid1.coords t) j) t.val ht h0 h1 h2)

/-- After the first point the accumulator holds what the point before left. -/
theorem beforeA3 (d : Dev nD) (t : Fin cfg1.N) (ht : t.val ≠ 0) (z) : (datA e x g o d).before 3 t z = accA e x g (t.val - 1) := by
  have hlt : t.val < 20 := lt_of_lt_of_eq t.isLt N_1
  refine ((datA e x g o d).before_out_kept 3 rfl t ht ?_ (fun _ => rfl) (fun _ _ => rfl) z).trans rfl
  rw [← Bool.not_eq_true]
  intro hf
  have := (flush1_3 ⟨t.val - 1, _⟩).mp hf
  simp only at this
  omega

/-- The body at every point. -/
theorem bodyA (d : Dev nD) : Pipeline.BodyObligation (datA e x g o d) defs₀ 𝒱₀ none Set.univ := fun t => by
  rw [bigSep_W1, bigSep_W1]
  rw [show (datA e x g o d).Φ t.castSucc = Pipeline.scopedRest spec1 d from rfl, show (datA e x g o d).Φ t.succ = Pipeline.scopedRest spec1 d from rfl,
    show (datA e x g o d).owesAt none t.succ = (datA e x g o d).owesAt none t.castSucc from rfl]
  iintro ⟨HR, HO, ⟨%z0, H0⟩, ⟨%z1, H1⟩, ⟨%z2, H2⟩, ⟨%z3, H3⟩⟩
  rw [beforeA0, beforeA1, beforeA2]
  have hs : stepA (grid1.coords t) e (blkA x t.val) (blkA g t.val) ((datA e x g o d).before 3 t z3) = accA e x g t.val := by
    unfold stepA
    rw [coordA t]
    rcases Nat.eq_zero_or_pos t.val with h0 | h0
    · rw [if_pos h0, h0]; rfl
    · rw [if_neg h0.ne', beforeA3 e x g o d t h0.ne']
      obtain ⟨n, hn⟩ : ∃ n, t.val = n + 1 := ⟨t.val - 1, by omega⟩
      rw [hn]; rfl
  iapply (runA d (grid1.coords t) (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    e (blkA x t.val) (blkA g t.val) ((datA e x g o d).before 3 t z3) _)
  rw [hs]
  isplitl [H0]; · iexact H0
  isplitl [H1]; · iexact H1
  isplitl [H2]; · iexact H2
  isplitl [H3]; · iexact H3
  iintro ⟨H0, H1, H2, H3⟩
  isplitl [HR]; · iexact HR
  isplitl [HO]; · iexact HO
  isplitl [H0]; · iexact H0
  isplitl [H1]; · iexact H1
  isplitl [H2]; · iexact H2
  iexact H3

/-- Every point's block of the result is the whole of it. -/
theorem memA (t : Fin cfg1.N) (i : S8x128.Idx) : i ∈ ((cfg1.win 3).blk t).view.set := by
  show i ∈ ((View.whole main_v9).slice (win1_3.rect t)).set
  rw [View.set_slice_whole, Rect.mem_set_unit]
  intro a
  have h2 : ∀ t : Fin grid1.N, ∀ a, win1_3.index t a * win1_3.size a = 0 ∧ win1_3.xsize (grid1.coords t) a = win1_3.shape.size a := by decide
  have h3 : (i a).val < win1_3.shape.size a := (i a).isLt
  obtain ⟨h4, h5⟩ := h2 t a
  refine ⟨?_, ?_⟩
  · show win1_3.index t a * win1_3.size a ≤ _
    rw [h4]; exact Nat.zero_le _
  · show (i a).val < win1_3.index t a * win1_3.size a + win1_3.xsize (grid1.coords t) a
    rw [h4, h5, Nat.zero_add]; exact h3

/-- A row of the first kernel's result: the last accumulator. -/
theorem arrA (d : Dev nD) : (datA e x g o d).arrAt 3 cfg1.N = accA e x g 19 := by
  refine (datA e x g o d).arrAt_eq_of_cover 3 (accA e x g 19) (fun t ht => ?_) (fun (i : S8x128.Idx) => ?_)
  · have h1 := (flush1_3 t).mp ht
    have h2 : t.val < 20 := lt_of_lt_of_eq t.isLt N_1
    have h3 : t.val = 19 := by omega
    show (fun j => accA e x g t.val _) = fun j => accA e x g 19 _
    rw [h3]
    funext j
    refine congrArg (accA e x g 19) (funext fun a => Fin.ext ?_)
    have h1 := Pipeline.Window.rect_emb_val win1_3 t j a
    have h2 : win1_3.index t a = 0 := by revert a; revert t; decide
    rw [h2, zero_mul, zero_add] at h1
    exact h1.symm
  · refine ⟨⟨19, by rw [show cfg1.N = 20 from N_1]; decide⟩, (flush1_3 _).mpr (by decide), memA _ i⟩

end Cert.KernelIdeal.Pf

end
-- ==== Proof.TcB.lean ====
/- The second TensorCore kernel: its windows, its body at every point, and what it leaves. -/
module

public import proofs.«01_k».proof.Proof.TcA

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Block `n` of 625 tile rows. -/
def blkB (x : S12500x8x128.Idx → F .f32) (n : ℕ) : S625x8x128.Idx → F .f32 := fun j => x (ix3 (625 * n + (j 0).val) (j 1).val (j 2).val)

/-- An index of a block of 625 tile rows. -/
def ixC (t s l : ℕ) : S625x8x128.Idx := fun
  | 0 => ⟨t % 625, Nat.mod_lt _ (by decide)⟩
  | 1 => ⟨s % 8, Nat.mod_lt _ (by decide)⟩
  | 2 => ⟨l % 128, Nat.mod_lt _ (by decide)⟩

variable (p : S256x128.Idx → F .f32) (a : S8x128.Idx → F .f32) (e : S1x1.Idx → F .f32) (x g o : S12500x8x128.Idx → F .f32)

/-- The second kernel's result, block by block. -/
def resB : S12500x8x128.Idx → F .f32 := fun i =>
  outB e p a (blkB x ((i 0).val / 625)) (blkB g ((i 0).val / 625)) (ixC ((i 0).val % 625) (i 1).val (i 2).val)

/-- The second kernel's proof data. -/
def datB (d : Dev nD) : Pipeline.Dat τ (Elt F) (HIx 1) ℕ UU ℕ cfg2 d where
  A := fun | 0 => p | 1 => a | 2 => e | 3 => x | 4 => g | 5 => o | ⟨_ + 6, h⟩ => absurd h (Nat.not_lt.2 (Nat.le_add_left _ _))
  after := fun
    | 0 => fun _ => p
    | 1 => fun _ => a
    | 2 => fun _ => e
    | 3 => fun t => blkB x t.val
    | 4 => fun t => blkB g t.val
    | 5 => fun t => outB e p a (blkB x t.val) (blkB g t.val)
    | ⟨_ + 6, h⟩ => absurd h (Nat.not_lt.2 (Nat.le_add_left _ _))
  Φ := fun _ => Pipeline.scopedRest spec2 d
  q := fun _ => fullShare
  owed := fun _ => 0
  recorded := fun _ => recs (F := F) d

/-- An element of block `t` of 625 tile rows, in the array. -/
theorem idxB (y : S12500x8x128.Idx) (j : S625x8x128.Idx) (t : ℕ) (ht : t < 20) (h0 : (y 0).val = t * 625 + (j 0).val) (h1 : (y 1).val = 0 * 8 + (j 1).val)
    (h2 : (y 2).val = 0 * 128 + (j 2).val) : ix3 (625 * t + (j 0).val) (j 1).val (j 2).val = y := by
  have b0 : (j 0).val < 625 := (j 0).isLt
  have b1 : (j 1).val < 8 := (j 1).isLt
  have b2 : (j 2).val < 128 := (j 2).isLt
  funext a; fin_cases a <;> refine Fin.ext ?_
  · show (625 * t + (j 0).val) % 12500 = (y 0).val
    rw [h0, Nat.mod_eq_of_lt (by omega)]; omega
  · show (j 1).val % 8 = (y 1).val
    rw [h1, Nat.mod_eq_of_lt b1]; omega
  · show (j 2).val % 128 = (y 2).val
    rw [h2, Nat.mod_eq_of_lt b2]; omega

theorem indexB0 (t : Fin grid2.N) : ∀ b : Fin 2, win2_0.index t b = 0 := fun | 0 => rfl | 1 => rfl

theorem beforeB0 (d : Dev nD) (t : Fin cfg2.N) (z) : (datB p a e x g o d).before 0 t z = p := by
  refine before_block (datB p a e x g o d) 0 rfl (fun _ => rfl) (by decide) (fun t => ?_) t z
  funext j
  refine congrArg p (funext fun b => Fin.ext ?_)
  have h1 := Pipeline.Window.rect_emb_val win2_0 t j b
  have h2 : win2_0.index t b = 0 := indexB0 t b
  rw [h2, zero_mul, zero_add] at h1
  exact h1.symm

theorem indexB1 (t : Fin grid2.N) : ∀ b : Fin 2, win2_1.index t b = 0 := fun | 0 => rfl | 1 => rfl

theorem beforeB1 (d : Dev nD) (t : Fin cfg2.N) (z) : (datB p a e x g o d).before 1 t z = a := by
  refine before_block (datB p a e x g o d) 1 rfl (fun _ => rfl) (by decide) (fun t => ?_) t z
  funext j
  refine congrArg a (funext fun b => Fin.ext ?_)
  have h1 := Pipeline.Window.rect_emb_val win2_1 t j b
  have h2 : win2_1.index t b = 0 := indexB1 t b
  rw [h2, zero_mul, zero_add] at h1
  exact h1.symm

theorem indexB2 (t : Fin grid2.N) : ∀ b : Fin 2, win2_2.index t b = 0 := fun | 0 => rfl | 1 => rfl

theorem beforeB2 (d : Dev nD) (t : Fin cfg2.N) (z) : (datB p a e x g o d).before 2 t z = e := by
  refine before_block (datB p a e x g o d) 2 rfl (fun _ => rfl) (by decide) (fun t => ?_) t z
  funext j
  refine congrArg e (funext fun b => Fin.ext ?_)
  have h1 := Pipeline.Window.rect_emb_val win2_2 t j b
  have h2 : win2_2.index t b = 0 := indexB2 t b
  rw [h2, zero_mul, zero_add] at h1
  exact h1.symm

theorem indexB3 (t : Fin grid2.N) : win2_3.index t 0 = t.val ∧ win2_3.index t 1 = 0 ∧ win2_3.index t 2 = 0 := by revert t; decide

theorem beforeB3 (d : Dev nD) (t : Fin cfg2.N) (z) : (datB p a e x g o d).before 3 t z = blkB x t.val := by
  refine before_block (datB p a e x g o d) 3 rfl (fun _ => rfl) (by decide) (fun t => ?_) t z
  funext j
  have ht : t.val < 20 := lt_of_lt_of_eq t.isLt N_2
  obtain ⟨i0, i1, i2⟩ := indexB3 t
  have h0 := Pipeline.Window.rect_emb_val win2_3 t j 0
  have h1 := Pipeline.Window.rect_emb_val win2_3 t j 1
  have h2 := Pipeline.Window.rect_emb_val win2_3 t j 2
  rw [i0] at h0; rw [i1] at h1; rw [i2] at h2
  exact congrArg x (idxB ((win2_3.rect t).emb j) (win2_3.xinj (grid2.coords t) j) t.val ht h0 h1 h2)

theorem indexB4 (t : Fin grid2.N) : win2_4.index t 0 = t.val ∧ win2_4.index t 1 = 0 ∧ win2_4.index t 2 = 0 := by revert t; decide

theorem beforeB4 (d : Dev nD) (t : Fin cfg2.N) (z) : (datB p a e x g o d).before 4 t z = blkB g t.val := by
  refine before_block (datB p a e x g o d) 4 rfl (fun _ => rfl) (by decide) (fun t => ?_) t z
  funext j
  have ht : t.val < 20 := lt_of_lt_of_eq t.isLt N_2
  obtain ⟨i0, i1, i2⟩ := indexB4 t
  have h0 := Pipeline.Window.rect_emb_val win2_4 t j 0
  have h1 := Pipeline.Window.rect_emb_val win2_4 t j 1
  have h2 := Pipeline.Window.rect_emb_val win2_4 t j 2
  rw [i0] at h0; rw [i1] at h1; rw [i2] at h2
  exact congrArg g (idxB ((win2_4.rect t).emb j) (win2_4.xinj (grid2.coords t) j) t.val ht h0 h1 h2)

theorem indexB5 (t : Fin grid2.N) : win2_5.index t 0 = t.val ∧ win2_5.index t 1 = 0 ∧ win2_5.index t 2 = 0 := by revert t; decide

/-- The body at every point. -/
theorem bodyB (d : Dev nD) : Pipeline.BodyObligation (datB p a e x g o d) defs₀ 𝒱₀ none Set.univ := fun t => by
  rw [bigSep_W2, bigSep_W2]
  rw [show (datB p a e x g o d).Φ t.castSucc = Pipeline.scopedRest spec2 d from rfl, show (datB p a e x g o d).Φ t.succ = Pipeline.scopedRest spec2 d from rfl,
    show (datB p a e x g o d).owesAt none t.succ = (datB p a e x g o d).owesAt none t.castSucc from rfl]
  iintro ⟨HR, HO, ⟨%z0, H0⟩, ⟨%z1, H1⟩, ⟨%z2, H2⟩, ⟨%z3, H3⟩, ⟨%z4, H4⟩, ⟨%z5, H5⟩⟩
  rw [beforeB0, beforeB1, beforeB2, beforeB3, beforeB4]
  iapply (runB d (grid2.coords t) (win2_0.stage (cfg2.slots t 0)) (hstage2_0 ((cfg2.slots t 0).cast nbuf2_0)) (win2_1.stage (cfg2.slots t 1)) (hstage2_1 ((cfg2.slots t 1).cast nbuf2_1))
    (win2_2.stage (cfg2.slots t 2)) (hstage2_2 ((cfg2.slots t 2).cast nbuf2_2)) (win2_3.stage (cfg2.slots t 3)) (hstage2_3 ((cfg2.slots t 3).cast nbuf2_3))
    (win2_4.stage (cfg2.slots t 4)) (hstage2_4 ((cfg2.slots t 4).cast nbuf2_4)) (win2_5.stage (cfg2.slots t 5)) (hstage2_5 ((cfg2.slots t 5).cast nbuf2_5))
    p a e (blkB x t.val) (blkB g t.val) ((datB p a e x g o d).before 5 t z5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HR]; · iexact HR
  isplitl [HO]; · iexact HO
  isplitl [H0]; · iexact H0
  isplitl [H1]; · iexact H1
  isplitl [H2]; · iexact H2
  isplitl [H3]; · iexact H3
  isplitl [H4]; · iexact H4
  iexact H5

/-- The rows of a point's block of the result. -/
theorem memB (t : Fin cfg2.N) (i : S12500x8x128.Idx) (h : (i 0).val / 625 = t.val) : i ∈ ((cfg2.win 5).blk t).view.set := by
  have hi1 : (i 1).val < 8 := (i 1).isLt
  have hi2 : (i 2).val < 128 := (i 2).isLt
  obtain ⟨i0, i1, i2⟩ := indexB5 t
  show i ∈ ((View.whole main_v10).slice (win2_5.rect t)).set
  rw [View.set_slice_whole, Rect.mem_set_unit]
  intro b
  match b with
  | ⟨0, _⟩ =>
    show win2_5.index t 0 * 625 ≤ (i 0).val ∧ (i 0).val < win2_5.index t 0 * 625 + 625
    rw [i0]; omega
  | ⟨1, _⟩ =>
    show win2_5.index t 1 * 8 ≤ (i 1).val ∧ (i 1).val < win2_5.index t 1 * 8 + 8
    rw [i1]; omega
  | ⟨2, _⟩ =>
    show win2_5.index t 2 * 128 ≤ (i 2).val ∧ (i 2).val < win2_5.index t 2 * 128 + 128
    rw [i2]; omega

/-- The second kernel's blocks tile its result. -/
theorem arrB (d : Dev nD) : (datB p a e x g o d).arrAt 5 cfg2.N = resB p a e x g := by
  refine (datB p a e x g o d).arrAt_eq_of_cover 5 (resB p a e x g) (fun t ht => ?_) (fun (i : S12500x8x128.Idx) => ?_)
  · have h2 : t.val < 20 := lt_of_lt_of_eq t.isLt N_2
    funext j
    obtain ⟨i0, i1, i2⟩ := indexB5 t
    have h0 := Pipeline.Window.rect_emb_val win2_5 t j 0
    have h1 := Pipeline.Window.rect_emb_val win2_5 t j 1
    have h3 := Pipeline.Window.rect_emb_val win2_5 t j 2
    rw [i0] at h0; rw [i1] at h1; rw [i2] at h3
    have b0 : (j 0).val < 625 := (j 0).isLt
    have b1 : (j 1).val < 8 := (j 1).isLt
    have b2 : (j 2).val < 128 := (j 2).isLt
    have h0' : ((win2_5.rect t).emb j 0).val = t.val * 625 + (j 0).val := h0
    have h1' : ((win2_5.rect t).emb j 1).val = 0 * 8 + (j 1).val := h1
    have h3' : ((win2_5.rect t).emb j 2).val = 0 * 128 + (j 2).val := h3
    show outB e p a (blkB x t.val) (blkB g t.val) (win2_5.xinj (grid2.coords t) j) = outB e p a (blkB x (((win2_5.rect t).emb j 0).val / 625)) (blkB g (((win2_5.rect t).emb j 0).val / 625))
      (ixC (((win2_5.rect t).emb j 0).val % 625) ((win2_5.rect t).emb j 1).val ((win2_5.rect t).emb j 2).val)
    rw [h0', h1', h3', show (t.val * 625 + (j 0).val) / 625 = t.val by omega, show (t.val * 625 + (j 0).val) % 625 = (j 0).val by omega]
    refine congrArg (outB e p a (blkB x t.val) (blkB g t.val)) (funext fun b => ?_)
    fin_cases b <;> refine Fin.ext ?_
    · show (j 0).val = (j 0).val % 625; omega
    · show (j 1).val = (0 * 8 + (j 1).val) % 8; omega
    · show (j 2).val = (0 * 128 + (j 2).val) % 128; omega
  · have hi : (i 0).val < 12500 := (i 0).isLt
    have hi1 : (i 1).val < 8 := (i 1).isLt
    have hi2 : (i 2).val < 128 := (i 2).isLt
    have hq : (i 0).val / 625 < grid2.N := by rw [N_2]; omega
    refine ⟨⟨(i 0).val / 625, hq⟩, flush2_5 _, memB _ i rfl⟩

end Cert.KernelIdeal.Pf

end
-- ==== Proof.Inner.lean ====
/- One trip of each accumulation loop of a tile: eight groups of sixteen lanes each take one row's terms. -/
module

public import proofs.«01_k».proof.Proof.Setup

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Sixteen lanes of a row of 128, group `g`. -/
def vG (h : ℕ → F .f32) (g : ℕ) : FVec F S16 .f32 := fun j => h (16 * g + (j 0).val)
abbrev Acc8 (F : FTy → Type) : Type := FVec F S16 .f32 × FVec F S16 .f32 × FVec F S16 .f32 × FVec F S16 .f32 × FVec F S16 .f32 × FVec F S16 .f32 × FVec F S16 .f32 × FVec F S16 .f32
/-- The eight groups of a row. -/
abbrev vec8 (h : ℕ → F .f32) : Acc8 F := (vG h 0, vG h 1, vG h 2, vG h 3, vG h 4, vG h 5, vG h 6, vG h 7)

/-- A row's value after the row `n` of two buffers is added, `s` the sixteen lanes' scale. -/
def stepB (fa fg : S16x8x128.Idx → Elt F .f32) (s : S16.Idx → Elt F .f32) (n : ℕ) (h : ℕ → F .f32) (l : ℕ) : F .f32 :=
  FloatOps.addf (h l) (FloatOps.exp (FloatOps.addf (FloatOps.mulf (fa (ixB (n / 8) (n % 8) l)) (s (ixS l))) (fg (ixB (n / 8) (n % 8) l))))

theorem off4_eq : ∀ k : Fin k0_t2_loop.trips, k0_off4 k = ![k.val / 8, k.val % 8, 0] := by decide +kernel
theorem off5_eq : ∀ k : Fin k0_t2_loop.trips, k0_off5 k = ![k.val / 8, k.val % 8, 16] := by decide +kernel
theorem off6_eq : ∀ k : Fin k0_t2_loop.trips, k0_off6 k = ![k.val / 8, k.val % 8, 32] := by decide +kernel
theorem off7_eq : ∀ k : Fin k0_t2_loop.trips, k0_off7 k = ![k.val / 8, k.val % 8, 48] := by decide +kernel
theorem off8_eq : ∀ k : Fin k0_t2_loop.trips, k0_off8 k = ![k.val / 8, k.val % 8, 64] := by decide +kernel
theorem off9_eq : ∀ k : Fin k0_t2_loop.trips, k0_off9 k = ![k.val / 8, k.val % 8, 80] := by decide +kernel
theorem off10_eq : ∀ k : Fin k0_t2_loop.trips, k0_off10 k = ![k.val / 8, k.val % 8, 96] := by decide +kernel
theorem off11_eq : ∀ k : Fin k0_t2_loop.trips, k0_off11 k = ![k.val / 8, k.val % 8, 112] := by decide +kernel

theorem t2_trips : k0_t2_loop.trips = 128 := by decide +kernel
theorem t3_trips : k0_t3_loop.trips = 128 := by decide +kernel

/-- Sixteen elements of a buffer along the lanes, from an aligned offset. -/
theorem row_read (f : S16x8x128.Idx → F .f32) {off : Fin 3 → ℕ} (hin : ∀ a, off a + S1x1x16.size a ≤ S16x8x128.size a) (h : S1x1x16.ShapeCasts S16)
    (t s g : ℕ) (ht : t < 16) (hs : s < 8) (hg : g < 8) (e : off = ![t, s, 16 * g]) (j : S16.Idx) :
    shapeCast S16 (fun x => f ((Rect.unit (s := S16x8x128) off S1x1x16.size hin).toLoadRect.idx x)) h j = f (ixB t s (16 * g + (j 0).val)) := by
  subst e
  have hj : (j 0).val < 16 := (j 0).isLt
  refine (shapeCast_apply _ h j (fun | 0 => ⟨0, by decide⟩ | 1 => ⟨0, by decide⟩ | 2 => ⟨(j 0).val, hj⟩) ?_).trans ?_
  · rw [Shape.rowMajor_val_three, Shape.rowMajor_val_one]
    show (0 * 1 + 0) * 16 + (j 0).val = (j 0).val
    omega
  · refine congrArg f (funext fun a => Fin.ext ?_)
    match a with
    | 0 => show t + 1 * 0 = t % 16; omega
    | 1 => show s + 1 * 0 = s % 8; omega
    | 2 => show 16 * g + 1 * (j 0).val = (16 * g + (j 0).val) % 128; omega

/-- One group's new sum. -/
theorem group_eq (fa fg : S16x8x128.Idx → F .f32) (s : S16.Idx → F .f32) (n : ℕ) (hn : n < 128) (h : ℕ → F .f32)
    {off : Fin 3 → ℕ} (hin hin' : ∀ a, off a + S1x1x16.size a ≤ S16x8x128.size a) (hc hc' : S1x1x16.ShapeCasts S16)
    (g : ℕ) (hg : g < 8) (e : off = ![n / 8, n % 8, 16 * g]) :
    addf (F := F) (φ := .f32) (vG h g) (exp (addf (mulf (shapeCast S16 (fun x => fa ((Rect.unit (s := S16x8x128) off S1x1x16.size hin).toLoadRect.idx x)) hc) s)
        (shapeCast S16 (fun x => fg ((Rect.unit (s := S16x8x128) off S1x1x16.size hin').toLoadRect.idx x)) hc')))
      = vG (stepB fa fg s n h) g := by
  funext j
  have hj : (j 0).val < 16 := (j 0).isLt
  have es : ixS (16 * g + (j 0).val) = j := funext fun a => match a with
    | 0 => Fin.ext (show (16 * g + (j 0).val) % 16 = (j 0).val by omega)
  show FloatOps.addf _ (FloatOps.exp (FloatOps.addf (FloatOps.mulf (shapeCast S16 _ hc j) (s j)) (shapeCast S16 _ hc' j))) = _
  rw [row_read fa hin hc (n / 8) (n % 8) g (by omega) (by omega) hg e, row_read fg hin' hc' (n / 8) (n % 8) g (by omega) (by omega) hg e]
  show _ = FloatOps.addf _ (FloatOps.exp (FloatOps.addf (FloatOps.mulf _ (s (ixS (16 * g + (j 0).val)))) _))
  rw [es]; rfl

section

variable (d : Dev nD) (L : grid0.Coords)

abbrev cV (L : grid0.Coords) : Fin τ.nSC := (L 0).castLE hcore0
abbrev jV (L : grid0.Coords) : Fin τ.nSub := (L 1).castLE hsub0

theorem off13_eq' : ∀ k : Fin k0_t3_loop.trips, k0_off13 k = ![k.val / 8, k.val % 8, 0] := by decide +kernel
theorem off14_eq' : ∀ k : Fin k0_t3_loop.trips, k0_off14 k = ![k.val / 8, k.val % 8, 16] := by decide +kernel
theorem off15_eq' : ∀ k : Fin k0_t3_loop.trips, k0_off15 k = ![k.val / 8, k.val % 8, 32] := by decide +kernel
theorem off16_eq' : ∀ k : Fin k0_t3_loop.trips, k0_off16 k = ![k.val / 8, k.val % 8, 48] := by decide +kernel
theorem off17_eq' : ∀ k : Fin k0_t3_loop.trips, k0_off17 k = ![k.val / 8, k.val % 8, 64] := by decide +kernel
theorem off18_eq' : ∀ k : Fin k0_t3_loop.trips, k0_off18 k = ![k.val / 8, k.val % 8, 80] := by decide +kernel
theorem off19_eq' : ∀ k : Fin k0_t3_loop.trips, k0_off19 k = ![k.val / 8, k.val % 8, 96] := by decide +kernel
theorem off20_eq' : ∀ k : Fin k0_t3_loop.trips, k0_off20 k = ![k.val / 8, k.val % 8, 112] := by decide +kernel
theorem pay23_eq (s : S16.Idx → F .f32) : k0_pay23 (F := F) s = s := shapeCast_self s _
theorem trip2 (fa fg : S16x8x128.Idx → Elt F .f32) (s : S16.Idx → Elt F .f32) (h : ℕ → F .f32) (k : Fin k0_t2_loop.trips)
    (v3 c0 c1 : BitVec 32) (k1 : Fin k0_t1_loop.trips) (b17 b18 b19 b20 b21 b22 b23 b24 : FVec F S16 .f32) :
    iprop(((a0M).view.loc (V d (cV L) (jV L)) ↦{fullShare} fa) ∗ ((g0M).view.loc (V d (cV L) (jV L)) ↦{fullShare} fg))
      ⊢ wp frame (wpE (defs₀ (F := F)) 𝒱₀ (V d (cV L) (jV L)) none) Set.univ
          (k0_t2_body L xM (Memref.isWhole_whole _) sM (Memref.isWhole_whole _) gM (Memref.isWhole_whole _) oM (Memref.isWhole_whole _)
            a0M (Memref.isWhole_whole _) a1M (Memref.isWhole_whole _) g0M (Memref.isWhole_whole _) g1M (Memref.isWhole_whole _)
            svM (Memref.isWhole_whole _) spM (Memref.isWhole_whole _) cc0_scratch6 cc0_scratch7 cc0_scratch8 cc0_scratch9 cc0_scoped0 cc0_scoped1
            v3 s c0 c1 k1 b17 b18 b19 b20 b21 b22 b23 b24 k (vec8 h))
          fun r => (iprop(⌜r = vec8 (stepB fa fg s k.val h)⌝ ∗ ((a0M).view.loc (V d (cV L) (jV L)) ↦{fullShare} fa) ∗ ((g0M).view.loc (V d (cV L) (jV L)) ↦{fullShare} fg)) : sProp 𝕄) := by
  unfold k0_t2_body vec8
  rw [k0_part1_eq_skeleton, k0_part2_eq_skeleton]; unfold k0_part1_skel k0_part2_skel
  iintro ⟨Ha, Hg⟩
  sl_exec
  sl_step
  isplitr
  · ipureintro
    have hk : k.val < 128 := t2_trips ▸ k.isLt
    refine Prod.ext ?_ (Prod.ext ?_ (Prod.ext ?_ (Prod.ext ?_ (Prod.ext ?_ (Prod.ext ?_ (Prod.ext ?_ ?_))))))
    · exact group_eq fa fg s k.val hk h _ _ _ _ 0 (by decide) (off4_eq k)
    · exact group_eq fa fg s k.val hk h _ _ _ _ 1 (by decide) (off5_eq k)
    · exact group_eq fa fg s k.val hk h _ _ _ _ 2 (by decide) (off6_eq k)
    · exact group_eq fa fg s k.val hk h _ _ _ _ 3 (by decide) (off7_eq k)
    · exact group_eq fa fg s k.val hk h _ _ _ _ 4 (by decide) (off8_eq k)
    · exact group_eq fa fg s k.val hk h _ _ _ _ 5 (by decide) (off9_eq k)
    · exact group_eq fa fg s k.val hk h _ _ _ _ 6 (by decide) (off10_eq k)
    · exact group_eq fa fg s k.val hk h _ _ _ _ 7 (by decide) (off11_eq k)
  isplitl [Ha]
  · iexact Ha
  · iexact Hg

theorem trip3 (fa fg : S16x8x128.Idx → Elt F .f32) (s : S16.Idx → Elt F .f32) (h : ℕ → F .f32) (k : Fin k0_t3_loop.trips)
    :
    iprop(((a1M).view.loc (V d (cV L) (jV L)) ↦{fullShare} fa) ∗ ((g1M).view.loc (V d (cV L) (jV L)) ↦{fullShare} fg))
      ⊢ wp frame (wpE (defs₀ (F := F)) 𝒱₀ (V d (cV L) (jV L)) none) Set.univ
          (k0_t3_body L xM (Memref.isWhole_whole _) sM (Memref.isWhole_whole _) gM (Memref.isWhole_whole _) oM (Memref.isWhole_whole _)
            a0M (Memref.isWhole_whole _) a1M (Memref.isWhole_whole _) g0M (Memref.isWhole_whole _) g1M (Memref.isWhole_whole _)
            svM (Memref.isWhole_whole _) spM (Memref.isWhole_whole _) cc0_scratch6 cc0_scratch7 cc0_scratch8 cc0_scratch9 cc0_scoped0 cc0_scoped1
            s k (vec8 h))
          fun r => (iprop(⌜r = vec8 (stepB fa fg s k.val h)⌝ ∗ ((a1M).view.loc (V d (cV L) (jV L)) ↦{fullShare} fa) ∗ ((g1M).view.loc (V d (cV L) (jV L)) ↦{fullShare} fg)) : sProp 𝕄) := by
  unfold k0_t3_body vec8
  rw [pay23_eq s]
  rw [k0_part3_eq_skeleton, k0_part4_eq_skeleton]; unfold k0_part3_skel k0_part4_skel
  iintro ⟨Ha, Hg⟩
  sl_exec
  sl_step
  isplitr
  · ipureintro
    have hk : k.val < 128 := t3_trips ▸ k.isLt
    refine Prod.ext ?_ (Prod.ext ?_ (Prod.ext ?_ (Prod.ext ?_ (Prod.ext ?_ (Prod.ext ?_ (Prod.ext ?_ ?_))))))
    · exact group_eq fa fg s k.val hk h _ _ _ _ 0 (by decide) (off13_eq' k)
    · exact group_eq fa fg s k.val hk h _ _ _ _ 1 (by decide) (off14_eq' k)
    · exact group_eq fa fg s k.val hk h _ _ _ _ 2 (by decide) (off15_eq' k)
    · exact group_eq fa fg s k.val hk h _ _ _ _ 3 (by decide) (off16_eq' k)
    · exact group_eq fa fg s k.val hk h _ _ _ _ 4 (by decide) (off17_eq' k)
    · exact group_eq fa fg s k.val hk h _ _ _ _ 5 (by decide) (off18_eq' k)
    · exact group_eq fa fg s k.val hk h _ _ _ _ 6 (by decide) (off19_eq' k)
    · exact group_eq fa fg s k.val hk h _ _ _ _ 7 (by decide) (off20_eq' k)
  isplitl [Ha]
  · iexact Ha
  · iexact Hg

end

end Cert.KernelIdeal.Pf

end
-- ==== Proof.Trip.lean ====
/- One trip of a tile's outer loop: two chunks of sixteen tile rows, each copied in while the other is added up. -/
module

public import proofs.«01_k».proof.Proof.Inner

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A resource held beside a flight is delivered with it. -/
theorem Flight_frame {thr : Thread nD τ} {sm : SemLoc sig} {ι : HIx 1} {N : ℕ} {D R : sProp 𝕄} :
    iprop(Transfers.Flight countersEmb thr sm ι N D ∗ R) ⊢ Transfers.Flight countersEmb thr sm ι N iprop(D ∗ R) := by
  unfold Transfers.Flight
  iintro ⟨⟨⟨%Rf, HR, %hcap, %hpeek⟩, Hcred⟩, Hx⟩
  isplitl [HR Hx]
  · iexists iprop(Rf ∗ R)
    isplitl [HR Hx]; · isplitl [HR] <;> iassumption
    isplit
    · ipureintro; intro Kp
      have h1 : iprop((Rf ∗ R) ∗ ((semVal (thr, sm) 0 ∗ D ∗ R) -∗ Kp PUnit.unit)) ⊢ iprop(Rf ∗ ((semVal (thr, sm) 0 ∗ D) -∗ Kp PUnit.unit)) := by
        iintro ⟨⟨HR, Hx⟩, HK⟩
        isplitl [HR]; · iexact HR
        iintro ⟨Hs, HD⟩
        iapply HK
        isplitl [Hs]; · iexact Hs
        isplitl [HD] <;> iassumption
      exact h1.trans (hcap Kp)
    · ipureintro; intro Kp
      have h1 : iprop((Rf ∗ R) ∗ ((Rf ∗ R) -∗ Kp PUnit.unit)) ⊢ iprop(Rf ∗ (Rf -∗ Kp PUnit.unit)) := by
        iintro ⟨⟨HR, Hx⟩, HK⟩
        isplitl [HR]; · iexact HR
        iintro HR
        iapply HK
        isplitl [HR] <;> iassumption
      exact h1.trans (hpeek Kp)
  · iexact Hcred

/-- A buffer holds the sixteen tile rows of an array from tile row `b`. -/
def Holds (f : S16x8x128.Idx → F .f32) (x : S12500x8x128.Idx → F .f32) (b : ℕ) : Prop :=
  ∀ t s l : ℕ, t < 16 → s < 8 → f (ixB t s l) = x (ix3 (b + t) s l)

section

variable (d : Dev nD) (L : grid0.Coords)

abbrev thr (d : Dev nD) (L : grid0.Coords) : Thread nD τ := V d (cV L) (jV L)

variable (x g : S12500x8x128.Idx → F .f32) (qx qg : PosShare TreeShare)

/-- The tile's first tile row. -/
def base (L : grid0.Coords) : ℕ := 320 * (L 1).val + 160 * (L 0).val + 7380

theorem base_le (L : grid0.Coords) : base L + 160 ≤ 12500 := by
  have h1 : (L 1).val < 16 := (L 1).isLt
  have h0 : (L 0).val < 2 := (L 0).isLt
  unfold base; omega

/-- The sixteen tile rows from tile row `b`, as a buffer holds them. -/
def chunk (x : S12500x8x128.Idx → F .f32) (b : ℕ) : S16x8x128.Idx → F .f32 := fun j => x (ix3 (b + (j 0).val) (j 1).val (j 2).val)

theorem holds_chunk (x : S12500x8x128.Idx → F .f32) (b : ℕ) : Holds (chunk x b) x b := by
  intro t s l ht hs
  refine congrArg x (funext fun a => Fin.ext ?_)
  match a with
  | 0 => show (b + t % 16) % 12500 = (b + t) % 12500; omega
  | 1 => show s % 8 % 8 = s % 8; omega
  | 2 => show l % 128 % 128 = l % 128; omega

/-- A chunk read through the slice a copy names. -/
theorem chunk_read (x : S12500x8x128.Idx → F .f32) (off : Fin 3 → ℕ)
    (hin : ∀ a, off a + S16x8x128.size a ≤ S12500x8x128.size a) (b : ℕ) (e : off = ![b, 0, 0]) :
    (fun j => x ((Rect.unit (s := S12500x8x128) off S16x8x128.size hin).emb j)) = chunk x b := by
  subst e
  have hb : b + 16 ≤ 12500 := hin 0
  funext j
  refine congrArg x (funext fun a => Fin.ext ?_)
  have h0 : (j 0).val < 16 := (j 0).isLt
  have h1 : (j 1).val < 8 := (j 1).isLt
  have h2 : (j 2).val < 128 := (j 2).isLt
  match a with
  | 0 => show b + 1 * (j 0).val = (b + (j 0).val) % 12500; omega
  | 1 => show 0 + 1 * (j 1).val = (j 1).val % 8; omega
  | 2 => show 0 + 1 * (j 2).val = (j 2).val % 128; omega

/-- What the copies into the four buffers deliver: the chunk from tile row `b`, and the share of the array back. -/
abbrev FA0 (x : S12500x8x128.Idx → F .f32) (q : PosShare TreeShare) (b : ℕ) : sProp 𝕄 :=
  Transfers.Flight countersEmb (thr d L) (SemLoc.dma cc0_scratch6.sem) (none : HIx 1) 524288 iprop(((a0M).view.loc (thr d L) ↦{fullShare} chunk x b) ∗ ((xM).view.loc (thr d L) ↦{q} x))
abbrev FA1 (x : S12500x8x128.Idx → F .f32) (q : PosShare TreeShare) (b : ℕ) : sProp 𝕄 :=
  Transfers.Flight countersEmb (thr d L) (SemLoc.dma cc0_scratch7.sem) (none : HIx 1) 524288 iprop(((a1M).view.loc (thr d L) ↦{fullShare} chunk x b) ∗ ((xM).view.loc (thr d L) ↦{q} x))
abbrev FG0 (g : S12500x8x128.Idx → F .f32) (q : PosShare TreeShare) (b : ℕ) : sProp 𝕄 :=
  Transfers.Flight countersEmb (thr d L) (SemLoc.dma cc0_scratch8.sem) (none : HIx 1) 524288 iprop(((g0M).view.loc (thr d L) ↦{fullShare} chunk g b) ∗ ((gM).view.loc (thr d L) ↦{q} g))
abbrev FG1 (g : S12500x8x128.Idx → F .f32) (q : PosShare TreeShare) (b : ℕ) : sProp 𝕄 :=
  Transfers.Flight countersEmb (thr d L) (SemLoc.dma cc0_scratch9.sem) (none : HIx 1) 524288 iprop(((g1M).view.loc (thr d L) ↦{fullShare} chunk g b) ∗ ((gM).view.loc (thr d L) ↦{q} g))

theorem fa0_intro (x : S12500x8x128.Idx → F .f32) (q : PosShare TreeShare) (fa : S16x8x128.Idx → F .f32) (off : Fin 3 → ℕ)
    (hin : ∀ a, off a + S16x8x128.size a ≤ S12500x8x128.size a) (b : ℕ) (e : off = ![b, 0, 0]) :
    iprop(Transfers.Flight countersEmb (thr d L) (SemLoc.dma cc0_scratch6.sem) (none : HIx 1) 524288
        iprop(((a0M).view.loc (thr d L) ↦{fullShare}
              View.write (Elt F) (a0M).view fa (View.read (Elt F) ((xM).slice (Rect.unit (s := S12500x8x128) off S16x8x128.size hin) (fun _ => rfl)).view x) Finset.univ)
          ∗ ((xM).view.loc (thr d L) ↦[((xM).slice (Rect.unit (s := S12500x8x128) off S16x8x128.size hin) (fun _ => rfl)).view.set]{q} x))
      ∗ ((xM).view.loc (thr d L) ↦[Finset.univ \ ((xM).slice (Rect.unit (s := S12500x8x128) off S16x8x128.size hin) (fun _ => rfl)).view.set]{q} x))
      ⊢ (FA0 d L x q b : sProp 𝕄) := by
  refine Flight_frame.trans (Transfers.Flight_mono countersEmb (thr d L) ?_)
  iintro ⟨⟨Ha, Hx⟩, Hr⟩
  isplitl [Ha]
  · rw [View.write_whole_univ, ← chunk_read x off hin b e]; iexact Ha
  · iapply (pointsTo_split_subset (S := Finset.univ) (Finset.subset_univ _)).2
    isplitl [Hx] <;> iassumption

theorem fa1_intro (x : S12500x8x128.Idx → F .f32) (q : PosShare TreeShare) (fa : S16x8x128.Idx → F .f32) (off : Fin 3 → ℕ)
    (hin : ∀ a, off a + S16x8x128.size a ≤ S12500x8x128.size a) (b : ℕ) (e : off = ![b, 0, 0]) :
    iprop(Transfers.Flight countersEmb (thr d L) (SemLoc.dma cc0_scratch7.sem) (none : HIx 1) 524288
        iprop(((a1M).view.loc (thr d L) ↦{fullShare}
              View.write (Elt F) (a1M).view fa (View.read (Elt F) ((xM).slice (Rect.unit (s := S12500x8x128) off S16x8x128.size hin) (fun _ => rfl)).view x) Finset.univ)
          ∗ ((xM).view.loc (thr d L) ↦[((xM).slice (Rect.unit (s := S12500x8x128) off S16x8x128.size hin) (fun _ => rfl)).view.set]{q} x))
      ∗ ((xM).view.loc (thr d L) ↦[Finset.univ \ ((xM).slice (Rect.unit (s := S12500x8x128) off S16x8x128.size hin) (fun _ => rfl)).view.set]{q} x))
      ⊢ (FA1 d L x q b : sProp 𝕄) := by
  refine Flight_frame.trans (Transfers.Flight_mono countersEmb (thr d L) ?_)
  iintro ⟨⟨Ha, Hx⟩, Hr⟩
  isplitl [Ha]
  · rw [View.write_whole_univ, ← chunk_read x off hin b e]; iexact Ha
  · iapply (pointsTo_split_subset (S := Finset.univ) (Finset.subset_univ _)).2
    isplitl [Hx] <;> iassumption

theorem fg0_intro (x : S12500x8x128.Idx → F .f32) (q : PosShare TreeShare) (fa : S16x8x128.Idx → F .f32) (off : Fin 3 → ℕ)
    (hin : ∀ a, off a + S16x8x128.size a ≤ S12500x8x128.size a) (b : ℕ) (e : off = ![b, 0, 0]) :
    iprop(Transfers.Flight countersEmb (thr d L) (SemLoc.dma cc0_scratch8.sem) (none : HIx 1) 524288
        iprop(((g0M).view.loc (thr d L) ↦{fullShare}
              View.write (Elt F) (g0M).view fa (View.read (Elt F) ((gM).slice (Rect.unit (s := S12500x8x128) off S16x8x128.size hin) (fun _ => rfl)).view x) Finset.univ)
          ∗ ((gM).view.loc (thr d L) ↦[((gM).slice (Rect.unit (s := S12500x8x128) off S16x8x128.size hin) (fun _ => rfl)).view.set]{q} x))
      ∗ ((gM).view.loc (thr d L) ↦[Finset.univ \ ((gM).slice (Rect.unit (s := S12500x8x128) off S16x8x128.size hin) (fun _ => rfl)).view.set]{q} x))
      ⊢ (FG0 d L x q b : sProp 𝕄) := by
  refine Flight_frame.trans (Transfers.Flight_mono countersEmb (thr d L) ?_)
  iintro ⟨⟨Ha, Hx⟩, Hr⟩
  isplitl [Ha]
  · rw [View.write_whole_univ, ← chunk_read x off hin b e]; iexact Ha
  · iapply (pointsTo_split_subset (S := Finset.univ) (Finset.subset_univ _)).2
    isplitl [Hx] <;> iassumption

theorem fg1_intro (x : S12500x8x128.Idx → F .f32) (q : PosShare TreeShare) (fa : S16x8x128.Idx → F .f32) (off : Fin 3 → ℕ)
    (hin : ∀ a, off a + S16x8x128.size a ≤ S12500x8x128.size a) (b : ℕ) (e : off = ![b, 0, 0]) :
    iprop(Transfers.Flight countersEmb (thr d L) (SemLoc.dma cc0_scratch9.sem) (none : HIx 1) 524288
        iprop(((g1M).view.loc (thr d L) ↦{fullShare}
              View.write (Elt F) (g1M).view fa (View.read (Elt F) ((gM).slice (Rect.unit (s := S12500x8x128) off S16x8x128.size hin) (fun _ => rfl)).view x) Finset.univ)
          ∗ ((gM).view.loc (thr d L) ↦[((gM).slice (Rect.unit (s := S12500x8x128) off S16x8x128.size hin) (fun _ => rfl)).view.set]{q} x))
      ∗ ((gM).view.loc (thr d L) ↦[Finset.univ \ ((gM).slice (Rect.unit (s := S12500x8x128) off S16x8x128.size hin) (fun _ => rfl)).view.set]{q} x))
      ⊢ (FG1 d L x q b : sProp 𝕄) := by
  refine Flight_frame.trans (Transfers.Flight_mono countersEmb (thr d L) ?_)
  iintro ⟨⟨Ha, Hx⟩, Hr⟩
  isplitl [Ha]
  · rw [View.write_whole_univ, ← chunk_read x off hin b e]; iexact Ha
  · iapply (pointsTo_split_subset (S := Finset.univ) (Finset.subset_univ _)).2
    isplitl [Hx] <;> iassumption

/-- One row of a chunk adds its term. -/
theorem step_tAcc (x g : S12500x8x128.Idx → F .f32) (s : S16.Idx → F .f32) (b n0 : ℕ) (hn : n0 % 8 = 0) (fa fg : S16x8x128.Idx → F .f32)
    (ha : Holds fa x (b + n0 / 8)) (hg : Holds fg g (b + n0 / 8)) (k : ℕ) (hk : k < 128) :
    stepB fa fg s k (tAcc x g s b (n0 + k)) = tAcc x g s b (n0 + (k + 1)) := by
  funext l
  show FloatOps.addf _ (FloatOps.exp (FloatOps.addf (FloatOps.mulf (fa _) _) (fg _))) = FloatOps.addf _ (FloatOps.exp (FloatOps.addf (FloatOps.mulf (x _) _) (g _)))
  rw [ha (k / 8) (k % 8) l (by omega) (by omega), hg (k / 8) (k % 8) l (by omega) (by omega),
    show b + n0 / 8 + k / 8 = b + (n0 + k) / 8 by omega, show k % 8 = (n0 + k) % 8 by omega]; rfl

/-- The inner loop over buffer pair 0: 128 rows added to the sum. -/
theorem loop2 (x g : S12500x8x128.Idx → F .f32) (s : S16.Idx → F .f32) (b n0 : ℕ) (hn : n0 % 8 = 0) (fa fg : S16x8x128.Idx → F .f32)
    (ha : Holds fa x (b + n0 / 8)) (hg : Holds fg g (b + n0 / 8))
    (v3 c0 c1 : BitVec 32) (k1 : Fin k0_t1_loop.trips) (b17 b18 b19 b20 b21 b22 b23 b24 : FVec F S16 .f32)
    (Q : Acc8 F → sProp 𝕄) :
    iprop((((a0M).view.loc (thr d L) ↦{fullShare} fa) ∗ ((g0M).view.loc (thr d L) ↦{fullShare} fg))
        ∗ ((((a0M).view.loc (thr d L) ↦{fullShare} fa) ∗ ((g0M).view.loc (thr d L) ↦{fullShare} fg))
            -∗ Q (vec8 (tAcc x g s b (n0 + 128)))))
      ⊢ wp frame (wpE (defs₀ (F := F)) 𝒱₀ (thr d L) none) Set.univ
       (Scf.Loop.for k0_t2_loop k0_t2_ok (vec8 (tAcc x g s b n0)) (k0_t2_body L xM (Memref.isWhole_whole _) sM (Memref.isWhole_whole _) gM (Memref.isWhole_whole _) oM (Memref.isWhole_whole _)
            a0M (Memref.isWhole_whole _) a1M (Memref.isWhole_whole _) g0M (Memref.isWhole_whole _) g1M (Memref.isWhole_whole _)
            svM (Memref.isWhole_whole _) spM (Memref.isWhole_whole _) cc0_scratch6 cc0_scratch7 cc0_scratch8 cc0_scratch9 cc0_scoped0 cc0_scoped1 v3 s c0 c1 k1 b17 b18 b19 b20 b21 b22 b23 b24)) Q := by
  refine BI.Entails.trans ?_ (Scf.wp_for _ _ _ _ _ _ k0_t2_ok _ _
    (fun n acc => (iprop(⌜acc = vec8 (tAcc x g s b (n0 + n))⌝ ∗ ((a0M).view.loc (thr d L) ↦{fullShare} fa) ∗ ((g0M).view.loc (thr d L) ↦{fullShare} fg)) : sProp 𝕄)) ?_)
  · show (_ : sProp 𝕄) ⊢ _
    iintro ⟨H, HK⟩
    isplitl [H]
    · isplitr; · ipureintro; rfl
      iexact H
    · iintro %acc ⟨%he, H⟩
      have e : acc = vec8 (tAcc x g s b (n0 + 128)) := he.trans (by rw [show Scf.trips _ _ _ = 128 from t2_trips])
      subst e
      iapply HK; iexact H
  · intro k acc
    iintro ⟨%he, H⟩
    subst he
    have hk : k.val < 128 := t2_trips ▸ k.isLt
    have e : stepB fa fg s k.val (tAcc x g s b (n0 + k.val)) = tAcc x g s b (n0 + (k.val + 1)) := step_tAcc x g s b n0 hn fa fg ha hg k.val hk
    rw [← e]
    iapply (trip2 d L fa fg s _ k v3 c0 c1 k1 b17 b18 b19 b20 b21 b22 b23 b24) $$ H

/-- The inner loop over buffer pair 1: 128 rows added to the sum. -/
theorem loop3 (x g : S12500x8x128.Idx → F .f32) (s : S16.Idx → F .f32) (b n0 : ℕ) (hn : n0 % 8 = 0) (fa fg : S16x8x128.Idx → F .f32)
    (ha : Holds fa x (b + n0 / 8)) (hg : Holds fg g (b + n0 / 8))
    (Q : Acc8 F → sProp 𝕄) :
    iprop((((a1M).view.loc (thr d L) ↦{fullShare} fa) ∗ ((g1M).view.loc (thr d L) ↦{fullShare} fg))
        ∗ ((((a1M).view.loc (thr d L) ↦{fullShare} fa) ∗ ((g1M).view.loc (thr d L) ↦{fullShare} fg))
            -∗ Q (vec8 (tAcc x g s b (n0 + 128)))))
      ⊢ wp frame (wpE (defs₀ (F := F)) 𝒱₀ (thr d L) none) Set.univ
       (Scf.Loop.for k0_t3_loop k0_t3_ok (vec8 (tAcc x g s b n0)) (k0_t3_body L xM (Memref.isWhole_whole _) sM (Memref.isWhole_whole _) gM (Memref.isWhole_whole _) oM (Memref.isWhole_whole _)
            a0M (Memref.isWhole_whole _) a1M (Memref.isWhole_whole _) g0M (Memref.isWhole_whole _) g1M (Memref.isWhole_whole _)
            svM (Memref.isWhole_whole _) spM (Memref.isWhole_whole _) cc0_scratch6 cc0_scratch7 cc0_scratch8 cc0_scratch9 cc0_scoped0 cc0_scoped1 s)) Q := by
  refine BI.Entails.trans ?_ (Scf.wp_for _ _ _ _ _ _ k0_t3_ok _ _
    (fun n acc => (iprop(⌜acc = vec8 (tAcc x g s b (n0 + n))⌝ ∗ ((a1M).view.loc (thr d L) ↦{fullShare} fa) ∗ ((g1M).view.loc (thr d L) ↦{fullShare} fg)) : sProp 𝕄)) ?_)
  · show (_ : sProp 𝕄) ⊢ _
    iintro ⟨H, HK⟩
    isplitl [H]
    · isplitr; · ipureintro; rfl
      iexact H
    · iintro %acc ⟨%he, H⟩
      have e : acc = vec8 (tAcc x g s b (n0 + 128)) := he.trans (by rw [show Scf.trips _ _ _ = 128 from t3_trips])
      subst e
      iapply HK; iexact H
  · intro k acc
    iintro ⟨%he, H⟩
    subst he
    have hk : k.val < 128 := t3_trips ▸ k.isLt
    have e : stepB fa fg s k.val (tAcc x g s b (n0 + k.val)) = tAcc x g s b (n0 + (k.val + 1)) := step_tAcc x g s b n0 hn fa fg ha hg k.val hk
    rw [← e]
    iapply (trip3 d L fa fg s _ k ) $$ H

/-- The first pair of buffers between trips: the next chunk under way, or, after the last, both free. -/
def slot0 (x g : S12500x8x128.Idx → F .f32) (qx qg : PosShare TreeShare) (k : ℕ) : sProp 𝕄 :=
  if k < 5 then iprop(FA0 d L x qx (base L + 32 * k) ∗ FG0 d L g qg (base L + 32 * k))
  else iprop((∃ f, (a0M).view.loc (thr d L) ↦{fullShare} f) ∗ (∃ f, (g0M).view.loc (thr d L) ↦{fullShare} f)
    ∗ semVal (thr d L, SemLoc.dma cc0_scratch6.sem) 0 ∗ semVal (thr d L, SemLoc.dma cc0_scratch8.sem) 0
    ∗ ((xM).view.loc (thr d L) ↦{qx} x) ∗ ((gM).view.loc (thr d L) ↦{qg} g))

/-- What the outer loop keeps besides: the second pair free, its shares of the arrays, and what the thread owes. -/
def rest1 (x g : S12500x8x128.Idx → F .f32) (qx qg : PosShare TreeShare) (O : CellTallies nD τ sig (HIx 1)) (W : Waits sig (HIx 1)) : sProp 𝕄 :=
  iprop((∃ f, (a1M).view.loc (thr d L) ↦{fullShare} f) ∗ (∃ f, (g1M).view.loc (thr d L) ↦{fullShare} f)
    ∗ semVal (thr d L, SemLoc.dma cc0_scratch7.sem) 0 ∗ semVal (thr d L, SemLoc.dma cc0_scratch9.sem) 0
    ∗ ((xM).view.loc (thr d L) ↦{qx} x) ∗ ((gM).view.loc (thr d L) ↦{qg} g)
    ∗ Transfers.MayWaits (thr d L) (none : HIx 1) O ∗ (∃ W', ⌜∀ p ∈ W', p ∈ W ∨ p.2 = none⌝ ∗ owes (thr d L) O W'))

/-- The outer loop's invariant before trip `k`. -/
def inv1 (x g : S12500x8x128.Idx → F .f32) (s : S16.Idx → F .f32) (q0x q0g q1x q1g : PosShare TreeShare)
    (O : CellTallies nD τ sig (HIx 1)) (W : Waits sig (HIx 1)) (k : ℕ) (acc : Acc8 F) : sProp 𝕄 :=
  iprop(⌜acc = vec8 (tAcc x g s (base L) (256 * k))⌝ ∗ slot0 d L x g q0x q0g k ∗ rest1 d L x g q1x q1g O W)

theorem waits4 {W W' : Waits sig (HIx 1)} (hW : ∀ p ∈ W', p ∈ W ∨ p.2 = none) {a b c e : SemLoc sig × HIx 1}
    (ha : a.2 = none) (hb : b.2 = none) (hc : c.2 = none) (he : e.2 = none) :
    ∀ p ∈ insert a (insert b (insert c (insert e W'))), p ∈ W ∨ p.2 = none := by
  intro p hp
  simp only [Finset.mem_insert] at hp
  rcases hp with rfl | rfl | rfl | rfl | h
  · exact .inr ha
  · exact .inr hb
  · exact .inr hc
  · exact .inr he
  · exact hW p h

theorem cond1_iff : ∀ k : Fin k0_t1_loop.trips, k0_cond1 k = 1#1 ↔ k.val < 4 := by decide +kernel
theorem t1_trips : k0_t1_loop.trips = 5 := by decide +kernel

theorem trip1 (x g : S12500x8x128.Idx → F .f32) (s : S16.Idx → F .f32) (q0x q0g q1x q1g : PosShare TreeShare)
    (O : CellTallies nD τ sig (HIx 1)) (W : Waits sig (HIx 1)) (k : Fin k0_t1_loop.trips) (v3 : BitVec 32) (acc : Acc8 F) :
    inv1 d L x g s q0x q0g q1x q1g O W k.val acc
      ⊢ wp frame (wpE (defs₀ (F := F)) 𝒱₀ (thr d L) none) Set.univ
       (k0_t1_body L xM (Memref.isWhole_whole _) sM (Memref.isWhole_whole _) gM (Memref.isWhole_whole _) oM (Memref.isWhole_whole _)
            a0M (Memref.isWhole_whole _) a1M (Memref.isWhole_whole _) g0M (Memref.isWhole_whole _) g1M (Memref.isWhole_whole _)
            svM (Memref.isWhole_whole _) spM (Memref.isWhole_whole _) cc0_scratch6 cc0_scratch7 cc0_scratch8 cc0_scratch9 cc0_scoped0 cc0_scoped1 v3 s k acc)
      (inv1 d L x g s q0x q0g q1x q1g O W (k.val + 1)) := by
  have hk : k.val < 5 := t1_trips ▸ k.isLt
  unfold inv1 rest1
  rw [show slot0 d L x g q0x q0g k.val = _ from if_pos hk]
  iintro ⟨%he, ⟨Hs6, Hs8⟩, ⟨%fa1, Ha1⟩, ⟨%fg1, Hg1⟩, Hs7, Hs9, Hx1, Hgg1, #Hmw, ⟨%W', %hW', HO⟩⟩
  subst he
  unfold k0_t1_body vec8
  rw [k0_part5_eq_skeleton]; unfold k0_part5_skel
  sl_exec
  ihave Hs7 := (fa1_intro d L x q1x fa1 (k0_off2 L k) _ (base L + 32 * k.val + 16) (by rw [k0_off2_eq]; unfold base; congr 1; omega)) $$ [Hs7 Hx1]
  · isplitl [Hs7]
    · iexact Hs7
    · iexact Hx1
  ihave Hs9 := (fg1_intro d L g q1g fg1 (k0_off2 L k) _ (base L + 32 * k.val + 16) (by rw [k0_off2_eq]; unfold base; congr 1; omega)) $$ [Hs9 Hgg1]
  · isplitl [Hs9]
    · iexact Hs9
    · iexact Hgg1
  rw [wp_bind, wp_bind, pay23_eq]
  iapply (loop2 d L x g s (base L) (256 * k.val) (by omega) _ _
    (by rw [show 256 * k.val / 8 = 32 * k.val by omega]; exact holds_chunk _ _)
    (by rw [show 256 * k.val / 8 = 32 * k.val by omega]; exact holds_chunk _ _) v3 0#32 1#32 k)
  isplitl [Hs6_dst Hs8_dst]
  · isplitl [Hs6_dst] <;> iassumption
  iintro ⟨Ha0, Hg0⟩
  by_cases hc : k0_cond1 k = 1#1
  · have hk4 := (cond1_iff k).mp hc
    rw [show slot0 d L x g q0x q0g (k.val + 1) = _ from if_pos (by omega)]
    sl_exec
    rw [wp_bind]
    iapply (loop3 d L x g s (base L) (256 * k.val + 128) (by omega) _ _
      (by rw [show base L + (256 * k.val + 128) / 8 = base L + 32 * k.val + 16 by omega]; exact holds_chunk _ _)
      (by rw [show base L + (256 * k.val + 128) / 8 = base L + 32 * k.val + 16 by omega]; exact holds_chunk _ _))
    isplitl [Hs7_dst Hs9_dst]
    · isplitl [Hs7_dst] <;> iassumption
    iintro ⟨Ha1, Hg1⟩
    sl_exec
    sl_step
    isplitr
    · ipureintro; rw [show 256 * (k.val + 1) = 256 * k.val + 128 + 128 by omega]
    isplitl [Hs6 Hs8 Hs6_src Hs8_src]
    · isplitl [Hs6 Hs6_src]
      · iapply (fa0_intro d L x q0x _ (k0_off12 L k) _ (base L + 32 * (k.val + 1)) (by rw [k0_off12_eq]; unfold base; congr 1; omega))
        isplitl [Hs6]
        · iexact Hs6
        · iexact Hs6_src
      · iapply (fg0_intro d L g q0g _ (k0_off12 L k) _ (base L + 32 * (k.val + 1)) (by rw [k0_off12_eq]; unfold base; congr 1; omega))
        isplitl [Hs8]
        · iexact Hs8
        · iexact Hs8_src
    isplitl [Ha1]; · iexists _; iexact Ha1
    isplitl [Hg1]; · iexists _; iexact Hg1
    isplitl [Hs7]; · iexact Hs7
    isplitl [Hs9]; · iexact Hs9
    isplitl [Hs7_src]; · iexact Hs7_src
    isplitl [Hs9_src]; · iexact Hs9_src
    isplitr; · iexact Hmw
    iexists (insert (SemLoc.dma cc0_scratch9.sem, none) (insert (SemLoc.dma cc0_scratch7.sem, none)
      (insert (SemLoc.dma cc0_scratch8.sem, none) (insert (SemLoc.dma cc0_scratch6.sem, none) W'))))
    isplitr
    · ipureintro; exact waits4 hW' rfl rfl rfl rfl
    · iexact HO
  · have hk4 : k.val = 4 := by have := mt (cond1_iff k).mpr hc; omega
    rw [show slot0 d L x g q0x q0g (k.val + 1) = _ from if_neg (by omega)]
    sl_exec
    rw [wp_bind]
    iapply (loop3 d L x g s (base L) (256 * k.val + 128) (by omega) _ _
      (by rw [show base L + (256 * k.val + 128) / 8 = base L + 32 * k.val + 16 by omega]; exact holds_chunk _ _)
      (by rw [show base L + (256 * k.val + 128) / 8 = base L + 32 * k.val + 16 by omega]; exact holds_chunk _ _))
    isplitl [Hs7_dst Hs9_dst]
    · isplitl [Hs7_dst] <;> iassumption
    iintro ⟨Ha1, Hg1⟩
    sl_exec
    sl_step
    isplitr
    · ipureintro; rw [show 256 * (k.val + 1) = 256 * k.val + 128 + 128 by omega]
    isplitl [Hs6 Hs8 Hs6_src Hs8_src Ha0 Hg0]
    · isplitl [Ha0]; · iexists _; iexact Ha0
      isplitl [Hg0]; · iexists _; iexact Hg0
      isplitl [Hs6]; · iexact Hs6
      isplitl [Hs8]; · iexact Hs8
      isplitl [Hs6_src] <;> iassumption
    isplitl [Ha1]; · iexists _; iexact Ha1
    isplitl [Hg1]; · iexists _; iexact Hg1
    isplitl [Hs7]; · iexact Hs7
    isplitl [Hs9]; · iexact Hs9
    isplitl [Hs7_src]; · iexact Hs7_src
    isplitl [Hs9_src]; · iexact Hs9_src
    isplitr; · iexact Hmw
    iexists (insert (SemLoc.dma cc0_scratch9.sem, none) (insert (SemLoc.dma cc0_scratch7.sem, none)
      (insert (SemLoc.dma cc0_scratch8.sem, none) (insert (SemLoc.dma cc0_scratch6.sem, none) W'))))
    isplitr
    · ipureintro; exact waits4 hW' rfl rfl rfl rfl
    · iexact HO

end

end Cert.KernelIdeal.Pf

end
-- ==== Proof.Tile.lean ====
/- A tile's whole task: the scale, five trips of the outer loop, the sums stored and copied out. -/
module

public import proofs.«01_k».proof.Proof.Trip

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (d : Dev nD) (L : grid0.Coords)

abbrev c6 (d : Dev nD) (L : grid0.Coords) : GSem nD τ sig := (thr d L, .dma cc0_scratch6.sem)
abbrev c7 (d : Dev nD) (L : grid0.Coords) : GSem nD τ sig := (thr d L, .dma cc0_scratch7.sem)
abbrev c8 (d : Dev nD) (L : grid0.Coords) : GSem nD τ sig := (thr d L, .dma cc0_scratch8.sem)
abbrev c9 (d : Dev nD) (L : grid0.Coords) : GSem nD τ sig := (thr d L, .dma cc0_scratch9.sem)
abbrev cP (d : Dev nD) (L : grid0.Coords) : GSem nD τ sig := (thr d L, .dma cc0_scoped0.sem)
abbrev cQ (d : Dev nD) (L : grid0.Coords) : GSem nD τ sig := (thr d L, .dma cc0_scoped1.sem)

omit [FloatOps F] in
theorem ownSems0_V :
    (ownSems0 (thr d L) : sProp 𝕄)
      = iprop(semVal (c6 d L) 0 ∗ semVal (c7 d L) 0 ∗ semVal (c8 d L) 0 ∗ semVal (c9 d L) 0 ∗ semVal (cP d L) 0 ∗ semVal (cQ d L) 0
          ∗ bigSep (((((((ownCells (thr d L)).erase (c6 d L)).erase (c7 d L)).erase (c8 d L)).erase (c9 d L)).erase (cP d L)).erase (cQ d L)) fun g => semVal g 0) := by
  unfold SparseCore.Cfg.ownSems0
  rw [SparseCore.bigSep_erase' ((mem_ownCells (g := c6 d L)).mpr ⟨rfl, by show (SemLoc.dma cc0_scratch6.sem : SemLoc sig).isScoped .scVector = true; decide⟩),
    SparseCore.bigSep_erase' (Finset.mem_erase.mpr ⟨by simp [c6, c7]; decide, (mem_ownCells (g := c7 d L)).mpr ⟨rfl, by show (SemLoc.dma cc0_scratch7.sem : SemLoc sig).isScoped .scVector = true; decide⟩⟩),
    SparseCore.bigSep_erase' (Finset.mem_erase.mpr ⟨by simp [c7, c8]; decide, Finset.mem_erase.mpr ⟨by simp [c6, c8]; decide, (mem_ownCells (g := c8 d L)).mpr ⟨rfl, by show (SemLoc.dma cc0_scratch8.sem : SemLoc sig).isScoped .scVector = true; decide⟩⟩⟩),
    SparseCore.bigSep_erase' (Finset.mem_erase.mpr ⟨by simp [c8, c9]; decide, Finset.mem_erase.mpr ⟨by simp [c7, c9]; decide, Finset.mem_erase.mpr ⟨by simp [c6, c9]; decide, (mem_ownCells (g := c9 d L)).mpr ⟨rfl, by show (SemLoc.dma cc0_scratch9.sem : SemLoc sig).isScoped .scVector = true; decide⟩⟩⟩⟩),
    SparseCore.bigSep_erase' (Finset.mem_erase.mpr ⟨by simp [c9, cP]; decide, Finset.mem_erase.mpr ⟨by simp [c8, cP]; decide, Finset.mem_erase.mpr ⟨by simp [c7, cP]; decide, Finset.mem_erase.mpr ⟨by simp [c6, cP]; decide, (mem_ownCells (g := cP d L)).mpr ⟨rfl, by show (SemLoc.dma cc0_scoped0.sem : SemLoc sig).isScoped .scVector = true; decide⟩⟩⟩⟩⟩),
    SparseCore.bigSep_erase' (Finset.mem_erase.mpr ⟨by simp [cP, cQ]; decide, Finset.mem_erase.mpr ⟨by simp [c9, cQ]; decide, Finset.mem_erase.mpr ⟨by simp [c8, cQ]; decide, Finset.mem_erase.mpr ⟨by simp [c7, cQ]; decide, Finset.mem_erase.mpr ⟨by simp [c6, cQ]; decide, (mem_ownCells (g := cQ d L)).mpr ⟨rfl, by show (SemLoc.dma cc0_scoped1.sem : SemLoc sig).isScoped .scVector = true; decide⟩⟩⟩⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩)]

abbrev cF (L : grid0.Coords) : Fin 2 := ⟨(L 0).val, (L 0).isLt⟩
abbrev iF (L : grid0.Coords) : Fin 16 := ⟨(L 1).val, (L 1).isLt⟩

omit [FloatOps F] in
theorem pts_x (q : PosShare TreeShare) (f : Buf (Elt F) (xLoc d)) :
    (xLoc d ↦{q} f : sProp 𝕄) = ((xM).view.loc (thr d L) ↦{q} f) := rfl
omit [FloatOps F] in
theorem pts_g (q : PosShare TreeShare) (f : Buf (Elt F) (gLoc d)) :
    (gLoc d ↦{q} f : sProp 𝕄) = ((gM).view.loc (thr d L) ↦{q} f) := rfl
omit [FloatOps F] in
theorem pts_s (q : PosShare TreeShare) (f : Buf (Elt F) (sLoc d)) :
    (sLoc d ↦{q} f : sProp 𝕄) = ((sM).view.loc (thr d L) ↦{q} f) := rfl

/-- The tile's eight rows of the partial sums, as its copy names them. -/
abbrev oRowK (L : grid0.Coords) : Memref sig .scVector .hbm S8x128 .f32 :=
  (oM).slice (Rect.unit (s := S256x128) (k0_off21 L) S8x128.size (k0_off21_inb L)) (fun _ => rfl)

theorem orowK_eq : Rect.unit (s := S256x128) (k0_off21 L) S8x128.size (k0_off21_inb L) = orow (wid (cF L) (iF L)) := by
  have h := k0_off21_eq L
  unfold orow Rect.part Rect.block
  congr 1 <;> funext a
  · rw [h]
    match a with
    | 0 => simp [Shape.partIx, Shape.partSize, wid]; omega
    | 1 => simp [Shape.partIx, Shape.partSize]
  · match a with
    | 0 => simp [Shape.partSize]
    | 1 => simp [Shape.partSize]

theorem set_oRowK : (oRowK L).view.set = oRowSet (wid (cF L) (iF L)) := by
  show ((oM).view.slice (Rect.unit (s := S256x128) (k0_off21 L) S8x128.size (k0_off21_inb L))).set = ((oM).view.slice (orow (wid (cF L) (iF L)))).set
  exact orowK_eq L ▸ rfl

omit [FloatOps F] in
theorem pts_oRowK (f : Buf (Elt F) (oLoc d)) :
    ((oRowK L).view.loc (thr d L) ↦[(oRowK L).view.set]{fullShare} f : sProp 𝕄) = oLoc d ↦[oRowSet (wid (cF L) (iF L))]{fullShare} f := by
  rw [set_oRowK]

variable (xv gv : (d : Dev nD) → S12500x8x128.Idx → Elt F .f32) (sv : (d : Dev nD) → S16.Idx → Elt F .f32)
  (ov : (d : Dev nD) → S256x128.Idx → Elt F .f32)

/-- One stored group of sixteen lanes. -/
theorem pay_row (h : ℕ → F .f32) (g : ℕ) (hc : S16.ShapeCasts S1x16) (x : S1x16.Idx) :
    shapeCast S1x16 (vG h g) hc x = h (16 * g + 1 * (x 1).val) := by
  have hx0 : (x 0).val < 1 := (x 0).isLt
  have hx : (x 1).val < 16 := (x 1).isLt
  refine (shapeCast_apply _ hc x (fun | 0 => ⟨(x 1).val, hx⟩) ?_).trans ?_
  · rw [Shape.rowMajor_val_two, Shape.rowMajor_val_one]
    show (x 1).val = (x 0).val * 16 + (x 1).val
    omega
  · show h (16 * g + (x 1).val) = _
    rw [Nat.one_mul]

/-- The store of lane group `g` into row `r`. -/
def pc (h : ℕ → F .f32) (r g : Fin 8) : View.Piece (Elt F) S8x128 .f32 :=
  ⟨Rect.unit (s := S8x128) ![r.val, 16 * g.val] S1x16.size (by
      intro a
      match a with
      | 0 => show r.val + 1 ≤ 8; omega
      | 1 => show 16 * g.val + 16 ≤ 128; omega), shapeCast S1x16 (vG h g.val) shapeCasts_S16_S1x16⟩

/-- The order of the stores, the last first. -/
def prs : List (Fin 8 × Fin 8) :=
  [(7, 7), (7, 6), (7, 5), (7, 4), (7, 3), (7, 2), (7, 1), (7, 0), (6, 7), (6, 6), (6, 5), (6, 4), (6, 3), (6, 2), (6, 1), (6, 0), (5, 7), (5, 6), (5, 5), (5, 4), (5, 3), (5, 2), (5, 1), (5, 0), (4, 7), (4, 6), (4, 5), (4, 4), (4, 3), (4, 2), (4, 1), (4, 0), (3, 7), (3, 6), (3, 5), (3, 4), (3, 3), (3, 2), (3, 1), (3, 0), (2, 7), (2, 6), (2, 5), (2, 4), (2, 3), (2, 2), (2, 1), (2, 0), (1, 7), (1, 6), (1, 5), (1, 4), (1, 3), (1, 2), (1, 1), (1, 0), (0, 7), (0, 6), (0, 5), (0, 4), (0, 3), (0, 2), (0, 1), (0, 0)]

def pcs (h : ℕ → F .f32) : List (View.Piece (Elt F) S8x128 .f32) := prs.map fun p => pc h p.1 p.2

theorem prs_all : ∀ r g : Fin 8, (r, g) ∈ prs := by decide

theorem pcs_ok (h : ℕ → F .f32) : ∀ p ∈ pcs h, ∀ x : p.1.shape.Idx, p.2 x = h ((p.1.emb x) 1).val := by
  intro p hp x
  obtain ⟨⟨r, g⟩, -, rfl⟩ := List.mem_map.mp hp
  exact pay_row h g.val shapeCasts_S16_S1x16 x

theorem pcs_cover (h : ℕ → F .f32) (y : S8x128.Idx) : ∃ p ∈ pcs h, y ∈ p.1.set := by
  have h0 : (y 0).val < 8 := (y 0).isLt
  have h1 : (y 1).val < 128 := (y 1).isLt
  refine ⟨pc h ⟨(y 0).val, h0⟩ ⟨(y 1).val / 16, by omega⟩, List.mem_map.mpr ⟨(⟨(y 0).val, h0⟩, ⟨(y 1).val / 16, by omega⟩), prs_all _ _, rfl⟩, ?_⟩
  refine ((pc h _ _).1.mem_set).mpr fun a => ?_
  match a with
  | 0 => exact ⟨0, Nat.one_pos, by show (y 0).val = (y 0).val + 1 * 0; omega⟩
  | 1 => exact ⟨(y 1).val % 16, by show (y 1).val % 16 < 16; omega, by show (y 1).val = 16 * ((y 1).val / 16) + 1 * ((y 1).val % 16); omega⟩

theorem pcs_read (h : ℕ → F .f32) (fp : S8x128.Idx → F .f32) (y : S8x128.Idx) :
    (spM).view.read (Elt F) ((spM).view.writes (Elt F) fp (pcs h)) y = h (y 1).val := by
  have hc := pcs_cover h y
  have ho := pcs_ok h
  generalize pcs h = l at hc ho ⊢
  exact View.read_writes_apply_of_pieces (Val := Elt F) (spM).view fp (fun y => h (y 1).val) l ho y hc

set_option maxHeartbeats 600000 in
theorem tail_run (h : ℕ → F .f32) (fp : S8x128.Idx → F .f32) (fo : S256x128.Idx → F .f32) (c : BitVec 32) (O : CellTallies nD τ sig (HIx 1)) (W : Waits sig (HIx 1)) (Q : PUnit → sProp 𝕄)
    (G : S256x128.Idx → F .f32) (hG : ∀ y : S8x128.Idx, G ((oRowK L).view.emb y) = h (y 1).val) :
    iprop(((spM).view.loc (thr d L) ↦{fullShare} (spM).view.writes (Elt F) fp [⟨Rect.unit (s := S8x128) ![0, 0] S1x16.size inb_S8x128_S1x16_0_0, k0_pay33 (vG h 0)⟩])
        ∗ ((oRowK L).view.loc (thr d L) ↦[(oRowK L).view.set]{fullShare} fo) ∗ semVal (cQ d L) 0
        ∗ Transfers.MayWaits (thr d L) (none : HIx 1) O ∗ owes (thr d L) O W
        ∗ (((∃ f, (spM).view.loc (thr d L) ↦{fullShare} f) ∗ ((oRowK L).view.loc (thr d L) ↦[(oRowK L).view.set]{fullShare} G) ∗ semVal (cQ d L) 0
            ∗ owes (thr d L) O (insert (SemLoc.dma cc0_scoped1.sem, none) W)) -∗ Q ⟨⟩))
      ⊢ wp frame (wpE (defs₀ (F := F)) 𝒱₀ (thr d L) none) Set.univ
          (do
            k0_part7 L xM (Memref.isWhole_whole _) sM (Memref.isWhole_whole _) gM (Memref.isWhole_whole _) oM (Memref.isWhole_whole _) a0M (Memref.isWhole_whole _) a1M (Memref.isWhole_whole _) g0M (Memref.isWhole_whole _) g1M (Memref.isWhole_whole _) svM (Memref.isWhole_whole _) spM (Memref.isWhole_whole _) cc0_scratch6 cc0_scratch7 cc0_scratch8 cc0_scratch9 cc0_scoped0 cc0_scoped1 (vG h 0) (vG h 1) (vG h 2) (vG h 3) (vG h 4) (vG h 5) (vG h 6) (vG h 7) c
            k0_part8 L xM (Memref.isWhole_whole _) sM (Memref.isWhole_whole _) gM (Memref.isWhole_whole _) oM (Memref.isWhole_whole _) a0M (Memref.isWhole_whole _) a1M (Memref.isWhole_whole _) g0M (Memref.isWhole_whole _) g1M (Memref.isWhole_whole _) svM (Memref.isWhole_whole _) spM (Memref.isWhole_whole _) cc0_scratch6 cc0_scratch7 cc0_scratch8 cc0_scratch9 cc0_scoped0 cc0_scoped1 (vG h 0) (vG h 1) (vG h 2) (vG h 3) (vG h 4) (vG h 5) (vG h 6) (vG h 7)
            let v128 ← k0_part9 L xM (Memref.isWhole_whole _) sM (Memref.isWhole_whole _) gM (Memref.isWhole_whole _) oM (Memref.isWhole_whole _) a0M (Memref.isWhole_whole _) a1M (Memref.isWhole_whole _) g0M (Memref.isWhole_whole _) g1M (Memref.isWhole_whole _) svM (Memref.isWhole_whole _) spM (Memref.isWhole_whole _) cc0_scratch6 cc0_scratch7 cc0_scratch8 cc0_scratch9 cc0_scoped0 cc0_scoped1 (vG h 0) (vG h 1) (vG h 2) (vG h 3) (vG h 4) (vG h 5) (vG h 6) (vG h 7)
            k0_part10 L xM (Memref.isWhole_whole _) sM (Memref.isWhole_whole _) gM (Memref.isWhole_whole _) oM (Memref.isWhole_whole _) a0M (Memref.isWhole_whole _) a1M (Memref.isWhole_whole _) g0M (Memref.isWhole_whole _) g1M (Memref.isWhole_whole _) svM (Memref.isWhole_whole _) spM (Memref.isWhole_whole _) cc0_scratch6 cc0_scratch7 cc0_scratch8 cc0_scratch9 cc0_scoped0 cc0_scoped1 (vG h 0) (vG h 1) (vG h 2) (vG h 3) (vG h 4) (vG h 5) (vG h 6) (vG h 7) v128
            k0_part11 L xM (Memref.isWhole_whole _) sM (Memref.isWhole_whole _) gM (Memref.isWhole_whole _) oM (Memref.isWhole_whole _) a0M (Memref.isWhole_whole _) a1M (Memref.isWhole_whole _) g0M (Memref.isWhole_whole _) g1M (Memref.isWhole_whole _) svM (Memref.isWhole_whole _) spM (Memref.isWhole_whole _) cc0_scratch6 cc0_scratch7 cc0_scratch8 cc0_scratch9 cc0_scoped0 cc0_scoped1 (vG h 0) (vG h 1) (vG h 2) (vG h 3) (vG h 4) (vG h 5) (vG h 6) (vG h 7)
            let v230 ← k0_part12 L xM (Memref.isWhole_whole _) sM (Memref.isWhole_whole _) gM (Memref.isWhole_whole _) oM (Memref.isWhole_whole _) a0M (Memref.isWhole_whole _) a1M (Memref.isWhole_whole _) g0M (Memref.isWhole_whole _) g1M (Memref.isWhole_whole _) svM (Memref.isWhole_whole _) spM (Memref.isWhole_whole _) cc0_scratch6 cc0_scratch7 cc0_scratch8 cc0_scratch9 cc0_scoped0 cc0_scoped1 (vG h 0) (vG h 1) (vG h 2) (vG h 3) (vG h 4) (vG h 5) (vG h 6) (vG h 7)
            let _ ← k0_part13 L xM (Memref.isWhole_whole _) sM (Memref.isWhole_whole _) gM (Memref.isWhole_whole _) oM (Memref.isWhole_whole _) a0M (Memref.isWhole_whole _) a1M (Memref.isWhole_whole _) g0M (Memref.isWhole_whole _) g1M (Memref.isWhole_whole _) svM (Memref.isWhole_whole _) spM (Memref.isWhole_whole _) cc0_scratch6 cc0_scratch7 cc0_scratch8 cc0_scratch9 cc0_scoped0 cc0_scoped1 (vG h 0) (vG h 1) (vG h 2) (vG h 3) (vG h 4) (vG h 5) (vG h 6) (vG h 7) v230
            let _ ← Prog.lift (.load spM (Rect.unit (s := S8x128) ![7, 80] S1x16.size inb_S8x128_S1x16_7_80).toLoadRect (View.loadsAt_vmem h_S1x16))
            Prog.lift (.store spM (Rect.unit (s := S8x128) ![7, 80] S1x16.size inb_S8x128_S1x16_7_80) (k0_pay1 (vG h 5)) Finset.univ (View.stores_vmem_bits_univ h_S1x16 rfl) (.inl rfl))
            let _ ← Prog.lift (.load spM (Rect.unit (s := S8x128) ![7, 96] S1x16.size inb_S8x128_S1x16_7_96).toLoadRect (View.loadsAt_vmem h_S1x16))
            Prog.lift (.store spM (Rect.unit (s := S8x128) ![7, 96] S1x16.size inb_S8x128_S1x16_7_96) (k0_pay2 (vG h 6)) Finset.univ (View.stores_vmem_bits_univ h_S1x16 rfl) (.inl rfl))
            let _ ← Prog.lift (.load spM (Rect.unit (s := S8x128) ![7, 112] S1x16.size inb_S8x128_S1x16_7_112).toLoadRect (View.loadsAt_vmem h_S1x16))
            Prog.lift (.store spM (Rect.unit (s := S8x128) ![7, 112] S1x16.size inb_S8x128_S1x16_7_112) (k0_pay3 (vG h 7)) Finset.univ (View.stores_vmem_bits_univ h_S1x16 rfl) (.inl rfl))
            Prog.lift (.enqueueDma spM (.here (oRowK L)) (.dma cc0_scoped1.sem) ((Memref.isWhole_whole _) : (spM).IsWhole).wordExact (View.wordExact_bits rfl) ⟨Or.inl rfl, trivial⟩)
            Prog.lift (.waitDma2 cc0_scoped1.sem spM (oRowK L) ((Memref.isWhole_whole _) : (spM).IsWhole).wordExact (View.wordExact_bits rfl))
            pure ⟨⟩) Q := by
  rw [k0_part7_eq_skeleton, k0_part8_eq_skeleton, k0_part9_eq_skeleton, k0_part10_eq_skeleton, k0_part11_eq_skeleton, k0_part12_eq_skeleton, k0_part13_eq_skeleton]
  unfold k0_part7_skel k0_part8_skel k0_part9_skel k0_part10_skel k0_part11_skel k0_part12_skel k0_part13_skel
  iintro ⟨H, Ho, HQ, #Hmw, HO, HK⟩
  sl_exec
  sl_step
  iapply HK
  isplitl [H]; · iexists _; iexact H
  isplitl [Ho]
  · have hfin : ∀ j ∈ (oRowK L).view.set, (oRowK L).view.writes (Elt F) fo [⟨Rect.whole S8x128, tail_run.sl.dma126 h fp⟩] j = G j := by
      intro j hj
      obtain ⟨y, -, rfl⟩ := Finset.mem_map.mp hj
      rw [hG]
      have e : (oRowK L).view.read (Elt F) ((oRowK L).view.writes (Elt F) fo [⟨Rect.whole S8x128, tail_run.sl.dma126 h fp⟩]) y = tail_run.sl.dma126 h fp y :=
        View.read_writes_cons_hit _ _ _ _ _ _ _ (by funext a; apply Fin.ext; show 0 + 1 * (y a).val = _; omega)
      refine e.trans ?_
      unfold tail_run.sl.dma126
      rw [show ∀ v : S8x128.Idx → F .f32, ReadAs.same.apply (Val := Elt F) (s := S8x128) (e := .f32) v y = v y from fun _ => rfl]
      have e2 : tail_run.sl.H_64 (F := F) h = pcs h := rfl
      rw [e2]
      exact pcs_read h fp y
    iapply (Entails.of_eq (pointsTo_congr hfin)); iexact Ho
  isplitl [HQ]; · iexact HQ
  iexact HO

omit [FloatOps F] in
/-- A share dealt in two. -/
theorem deal2 (ℓ : Loc nD τ sig) (q : PosShare TreeShare) (f : Buf (Elt F) ℓ) :
    (ℓ ↦{q} f : sProp 𝕄) = iprop((ℓ ↦{Transfers.dealOf q (Finset.univ : Finset (Fin 2)) 0} f) ∗ (ℓ ↦{Transfers.dealOf q (Finset.univ : Finset (Fin 2)) 1} f)) := by
  refine (Transfers.pointsTo_deal (Finset.univ : Finset (Fin 2)) Finset.univ_nonempty q).trans ?_
  rw [show (Finset.univ : Finset (Fin 2)) = insert 0 {1} by decide, SparseCore.bigSep_insert' (by decide), BI.bigSep_singleton]

/-- The scale as the tile reads it back from its own copy. -/
theorem sv_read (d : Dev nD) (sv : (d : Dev nD) → S16.Idx → Elt F .f32) (fs : S16.Idx → Elt F .f32) :
    View.readAt (Elt F) (svM).view (Rect.unit (s := S16) ![0] S16.size inb_S16_S16_0).toLoadRect
      (View.write (Elt F) (svM).view fs ((sM).view.read (Elt F) (sv d)) Finset.univ) = sv d := by
  rw [View.write_whole_univ]
  funext j
  refine congrArg (sv d) (funext fun a => Fin.ext ?_)
  show _ + 1 * (j a).val = (j a).val
  match a with
  | 0 => show 0 + 1 * (j 0).val = (j 0).val; omega

/-- The outer loop: its invariant after the last trip is what the rest runs from. -/
theorem loop1 (x g : S12500x8x128.Idx → F .f32) (s s' : S16.Idx → F .f32) (hs : s' = s) (q0x q0g q1x q1g : PosShare TreeShare)
    (O : CellTallies nD τ sig (HIx 1)) (W : Waits sig (HIx 1)) (v3 : BitVec 32) (init : Acc8 F) (Q : Acc8 F → sProp 𝕄) :
    iprop(inv1 d L x g s q0x q0g q1x q1g O W 0 init ∗ (∀ acc, inv1 d L x g s q0x q0g q1x q1g O W 5 acc -∗ Q acc))
      ⊢ wp frame (wpE (defs₀ (F := F)) 𝒱₀ (thr d L) none) Set.univ
        (Scf.Loop.for k0_t1_loop k0_t1_ok init (k0_t1_body L xM (Memref.isWhole_whole _) sM (Memref.isWhole_whole _) gM (Memref.isWhole_whole _) oM (Memref.isWhole_whole _) a0M (Memref.isWhole_whole _) a1M (Memref.isWhole_whole _) g0M (Memref.isWhole_whole _) g1M (Memref.isWhole_whole _) svM (Memref.isWhole_whole _) spM (Memref.isWhole_whole _) cc0_scratch6 cc0_scratch7 cc0_scratch8 cc0_scratch9 cc0_scoped0 cc0_scoped1 v3 s')) Q := by
  subst hs
  refine BI.Entails.trans ?_ (Scf.wp_for _ _ _ _ _ _ k0_t1_ok _ _ (inv1 d L x g s' q0x q0g q1x q1g O W)
    (fun k acc => trip1 d L x g s' q0x q0g q1x q1g O W k v3 acc))
  rw [show Scf.trips k0_t1_loop.lb k0_t1_loop.ub k0_t1_loop.st = 5 from t1_trips]
  exact BI.Entails.refl _

variable (xv gv : (d : Dev nD) → S12500x8x128.Idx → Elt F .f32) (sv : (d : Dev nD) → S16.Idx → Elt F .f32)
  (ov : (d : Dev nD) → S256x128.Idx → Elt F .f32)

/-- The first store of the sums, at the head of the row buffer. -/
theorem st0 (h : ℕ → F .f32) (fp : S8x128.Idx → F .f32) (c : BitVec 32)
    (Q : (Σ' (_ : BitVec 32) (_ : FVec F S16 .f32) (_ : FVec F S16 .f32) (_ : FVec F S16 .f32) (_ : FVec F S16 .f32) (_ : FVec F S16 .f32) (_ : FVec F S16 .f32) (_ : FVec F S16 .f32) (_ : FVec F S16 .f32), BitVec 32) → sProp 𝕄) :
    iprop(((spM).view.loc (thr d L) ↦{fullShare} fp)
        ∗ (((spM).view.loc (thr d L) ↦{fullShare} (spM).view.writes (Elt F) fp [⟨Rect.unit (s := S8x128) ![0, 0] S1x16.size inb_S8x128_S1x16_0_0, k0_pay33 (vG h 0)⟩])
            -∗ Q ⟨c, vG h 0, vG h 1, vG h 2, vG h 3, vG h 4, vG h 5, vG h 6, vG h 7, 0#32⟩))
      ⊢ wp frame (wpE (defs₀ (F := F)) 𝒱₀ (thr d L) none) Set.univ
          (do
            let _ ← Prog.lift (.load spM (Rect.unit (s := S8x128) ![0, 0] S1x16.size inb_S8x128_S1x16_0_0).toLoadRect (View.loadsAt_vmem h_S1x16))
            Prog.lift (.store spM (Rect.unit (s := S8x128) ![0, 0] S1x16.size inb_S8x128_S1x16_0_0) (k0_pay33 (vG h 0)) Finset.univ (View.stores_vmem_bits_univ h_S1x16 rfl) (.inl rfl))
            pure ⟨c, vG h 0, vG h 1, vG h 2, vG h 3, vG h 4, vG h 5, vG h 6, vG h 7, 0#32⟩) Q := by
  iintro ⟨H, HK⟩
  sl_exec
  sl_step
  iapply HK
  iexact H

theorem PART_row (x g : S12500x8x128.Idx → F .f32) (s : S16.Idx → F .f32) (y : S8x128.Idx) :
    PART x g s ((oRowK L).view.emb y) = tAcc x g s (base L) (256 * 5) (y 1).val := by
  have h0 : (((oRowK L).view.emb y) 0).val = 16 * (L 1).val + 8 * (L 0).val + (y 0).val := by
    show k0_off21 L 0 + 1 * (y 0).val = _
    rw [k0_off21_eq]; show 16 * (L 1).val + 8 * (L 0).val + 1 * (y 0).val = _; omega
  have h1 : (((oRowK L).view.emb y) 1).val = (y 1).val := by
    show k0_off21 L 1 + 1 * (y 1).val = _
    rw [k0_off21_eq]; show 0 + 1 * (y 1).val = _; omega
  have hy : (y 0).val < 8 := (y 0).isLt
  show tAcc x g s (7380 + 160 * ((((oRowK L).view.emb y) 0).val / 8)) 1280 (((oRowK L).view.emb y) 1).val = _
  rw [h0, h1, show 7380 + 160 * ((16 * (L 1).val + 8 * (L 0).val + (y 0).val) / 8) = base L by unfold base; omega]

/-- A tile's task. -/
theorem tile_body (hF : (K (F := F)).Facts) (O : CellTallies nD τ sig (HIx 1)) (W : Waits sig (HIx 1)) (hO : ∀ g, O g none = 0) :
    iprop(levAts (K (F := F)).L (K (F := F)).lev ∗ emp
        ∗ goP xv gv sv d (cF L) (iF L) (ov d)
        ∗ scopedBufs (thr d L) ∗ scopedSems0 (thr d L) ∗ owes (thr d L) O W)
      ⊢ wp frame (wpE (defs₀ (F := F)) 𝒱₀ (thr d L) none) Set.univ
          (cc0__phase_a_body L xM (Memref.isWhole_whole _) sM (Memref.isWhole_whole _) gM (Memref.isWhole_whole _) oM (Memref.isWhole_whole _) a0M (Memref.isWhole_whole _) a1M (Memref.isWhole_whole _) g0M (Memref.isWhole_whole _) g1M (Memref.isWhole_whole _) svM (Memref.isWhole_whole _) spM (Memref.isWhole_whole _) cc0_scratch6 cc0_scratch7 cc0_scratch8 cc0_scratch9 cc0_scoped0 cc0_scoped1)
          fun _ => iprop(goP xv gv sv d (cF L) (iF L) (PART (xv d) (gv d) (sv d))
            ∗ scopedBufs (thr d L) ∗ scopedSems0 (thr d L)
            ∗ ∃ W', ⌜∀ p ∈ W', p ∈ W ∨ p.2 = none⌝ ∗ owes (thr d L) O W') := by
  rw [cc0__phase_a_body_eq_skeleton]; unfold cc0__phase_a_body_skel
  rw [k0_part6_eq_skeleton]; unfold k0_part6_skel
  rw [(K (F := F)).scopedBufs_V hF d (cV L) (jV L), SparseCore.Cfg.scopedSems0_V (Val := Elt F) d (cV L) (jV L), ownSems0_V, ownBufs_V]
  iintro ⟨#Hlv, -, ⟨Hx, Hg, Hs, Ho⟩, ⟨⟨%fa0, Ha0⟩, ⟨%fa1, Ha1⟩, ⟨%fg0, Hg0⟩, ⟨%fg1, Hg1⟩, ⟨%fs, Hfs⟩, ⟨%fp, Hfp⟩, Hbufs⟩,
    ⟨H6, H7, H8, H9, HP, HQ, Hsems⟩, HO⟩
  ihave #Hmw := (show levAts (K (F := F)).L (K (F := F)).lev ⊢ Transfers.MayWaits (thr d L) (none : HIx 1) O from
    (K (F := F)).mayWaits_none (thr := thr d L) hO) $$ Hlv
  ihave Hx' := (Entails.of_eq (show (xPts xv d (qT (cF L) (iF L)) : sProp 𝕄)
    = iprop(((xM).view.loc (thr d L) ↦{qH (cF L) (iF L) 0} xv d) ∗ ((xM).view.loc (thr d L) ↦{qH (cF L) (iF L) 1} xv d)) from
      deal2 (xLoc d) (qT (cF L) (iF L)) (xv d))) $$ Hx
  icases Hx' with ⟨Hx0, Hx1⟩
  ihave Hg' := (Entails.of_eq (show (gPts gv d (qT (cF L) (iF L)) : sProp 𝕄)
    = iprop(((gM).view.loc (thr d L) ↦{qH (cF L) (iF L) 0} gv d) ∗ ((gM).view.loc (thr d L) ↦{qH (cF L) (iF L) 1} gv d)) from
      deal2 (gLoc d) (qT (cF L) (iF L)) (gv d))) $$ Hg
  icases Hg' with ⟨Hgg0, Hgg1⟩
  ihave Hs := (Entails.of_eq (pts_s (F := F) d L _ _)) $$ Hs
  ihave Ho := (Entails.of_eq (pts_oRowK (F := F) d L _).symm) $$ Ho
  ihave Ha0 := (Entails.of_eq (show ((thr d L).loc cc0_scratch0 ↦{fullShare} fa0 : sProp 𝕄) = ((a0M).view.loc (thr d L) ↦{fullShare} fa0) from rfl)) $$ Ha0
  ihave Ha1 := (Entails.of_eq (show ((thr d L).loc cc0_scratch1 ↦{fullShare} fa1 : sProp 𝕄) = ((a1M).view.loc (thr d L) ↦{fullShare} fa1) from rfl)) $$ Ha1
  ihave Hg0 := (Entails.of_eq (show ((thr d L).loc cc0_scratch2 ↦{fullShare} fg0 : sProp 𝕄) = ((g0M).view.loc (thr d L) ↦{fullShare} fg0) from rfl)) $$ Hg0
  ihave Hg1 := (Entails.of_eq (show ((thr d L).loc cc0_scratch3 ↦{fullShare} fg1 : sProp 𝕄) = ((g1M).view.loc (thr d L) ↦{fullShare} fg1) from rfl)) $$ Hg1
  ihave Hfs := (Entails.of_eq (show ((thr d L).loc cc0_scratch4 ↦{fullShare} fs : sProp 𝕄) = ((svM).view.loc (thr d L) ↦{fullShare} fs) from rfl)) $$ Hfs
  ihave Hfp := (Entails.of_eq (show ((thr d L).loc cc0_scratch5 ↦{fullShare} fp : sProp 𝕄) = ((spM).view.loc (thr d L) ↦{fullShare} fp) from rfl)) $$ Hfp
  sl_exec
  ihave H6 := (fa0_intro d L (xv d) _ fa0 (k0_off1 L) _ (base L + 32 * 0) (by rw [k0_off1_eq]; rfl)) $$ [H6 Hx0]
  · isplitl [H6]
    · iexact H6
    · iexact Hx0
  ihave H8 := (fg0_intro d L (gv d) _ fg0 (k0_off1 L) _ (base L + 32 * 0) (by rw [k0_off1_eq]; rfl)) $$ [H8 Hgg0]
  · isplitl [H8]
    · iexact H8
    · iexact Hgg0
  rw [wp_bind, wp_bind]
  iapply (loop1 d L (xv d) (gv d) (sv d) _ (sv_read d sv fs) (qH (cF L) (iF L) 0) (qH (cF L) (iF L) 0) (qH (cF L) (iF L) 1) (qH (cF L) (iF L) 1) O W)
  isplitl [H6 H8 H7 H9 Ha1 Hg1 Hx1 Hgg1 HO]
  · unfold inv1 rest1
    isplitr
    · ipureintro; rfl
    isplitl [H6 H8]
    · iapply (Entails.of_eq (show slot0 d L (xv d) (gv d) (qH (cF L) (iF L) 0) (qH (cF L) (iF L) 0) 0 = _ from if_pos (by decide)).symm)
      isplitl [H6]
      · iexact H6
      · iexact H8
    isplitl [Ha1]; · iexists _; iexact Ha1
    isplitl [Hg1]; · iexists _; iexact Hg1
    isplitl [H7]; · iexact H7
    isplitl [H9]; · iexact H9
    isplitl [Hx1]; · iexact Hx1
    isplitl [Hgg1]; · iexact Hgg1
    isplitr; · iexact Hmw
    iexists (insert (SemLoc.dma cc0_scoped0.sem, none) W)
    isplitr
    · ipureintro
      intro p hp
      rcases Finset.mem_insert.mp hp with hp | hp
      · exact .inr (hp ▸ rfl)
      · exact .inl hp
    · iexact HO
  iintro %acc Hinv
  unfold inv1 rest1
  rw [show slot0 d L (xv d) (gv d) (qH (cF L) (iF L) 0) (qH (cF L) (iF L) 0) 5 = _ from if_neg (by decide)]
  icases Hinv with ⟨%he, ⟨Ha0, Hg0, H6, H8, Hx0, Hgg0⟩, ⟨Ha1, Hg1, H7, H9, Hx1, Hgg1, -, ⟨%W', %hW', HO⟩⟩⟩
  subst he
  iapply (st0 d L (tAcc (xv d) (gv d) (sv d) (base L) (256 * 5)) fp)
  isplitl [Hfp]; · iexact Hfp
  iintro Hfp
  iapply (tail_run d L (tAcc (xv d) (gv d) (sv d) (base L) (256 * 5)) fp (ov d) 0#32 O W' _ (PART (xv d) (gv d) (sv d))
    (PART_row L (xv d) (gv d) (sv d)))
  isplitl [Hfp]; · iexact Hfp
  isplitl [Ho]; · iexact Ho
  isplitl [HQ]; · iexact HQ
  isplitr; · iexact Hmw
  isplitl [HO]; · iexact HO
  iintro ⟨Hfp, Ho, HQ, HO⟩
  isplitl [Hx0 Hx1 Hgg0 Hgg1 Hs Ho]
  · unfold goP
    isplitl [Hx0 Hx1]
    · iapply (Entails.of_eq (deal2 (xLoc d) (qT (cF L) (iF L)) (xv d)).symm)
      isplitl [Hx0]
      · iexact Hx0
      · iexact Hx1
    isplitl [Hgg0 Hgg1]
    · iapply (Entails.of_eq (deal2 (gLoc d) (qT (cF L) (iF L)) (gv d)).symm)
      isplitl [Hgg0]
      · iexact Hgg0
      · iexact Hgg1
    isplitl [Hs]
    · iapply (Entails.of_eq (pts_s (F := F) d L _ _).symm); iexact Hs
    · iapply (Entails.of_eq (pts_oRowK (F := F) d L _)); iexact Ho
  isplitl [Ha0 Ha1 Hg0 Hg1 Hfs Hfp Hbufs]
  · isplitl [Ha0]; · iexact Ha0
    isplitl [Ha1]; · iexact Ha1
    isplitl [Hg0]; · iexact Hg0
    isplitl [Hg1]; · iexact Hg1
    isplitl [Hfs]; · iexists _; iexact Hfs
    isplitl [Hfp]; · iexact Hfp
    iexact Hbufs
  isplitl [H6 H7 H8 H9 HP HQ Hsems]
  · isplitl [H6]; · iexact H6
    isplitl [H7]; · iexact H7
    isplitl [H8]; · iexact H8
    isplitl [H9]; · iexact H9
    isplitl [HP]; · iexact HP
    isplitl [HQ]; · iexact HQ
    iexact Hsems
  iexists _; isplitr
  swap; · iexact HO
  ipureintro; intro p hp
  rcases Finset.mem_insert.mp hp with hp | hp; · exact .inr (hp ▸ rfl)
  exact hW' p hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => (fun L : grid0.Coords => cc0__phase_a_body L xM (Memref.isWhole_whole _) sM (Memref.isWhole_whole _) gM (Memref.isWhole_whole _) oM (Memref.isWhole_whole _) a0M (Memref.isWhole_whole _) a1M (Memref.isWhole_whole _) g0M (Memref.isWhole_whole _) g1M (Memref.isWhole_whole _) svM (Memref.isWhole_whole _) spM (Memref.isWhole_whole _) cc0_scratch6 cc0_scratch7 cc0_scratch8 cc0_scratch9 cc0_scoped0 cc0_scoped1) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P xv gv sv ov) v₀ 0 := by
  intro d c i O W hO _ _
  simp only [show (P xv gv sv ov).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) xv gv sv ov hF O W hO).trans (wp_mono frame _ _ fun _ => obl_post)

end

end Cert.KernelIdeal.Pf

end
-- ==== Proof.Deal.lean ====
/- The arrays of the SparseCore call dealt to the cores and the tiles, and joined again. -/
module

public import proofs.«01_k».proof.Proof.Tile

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The blocks of the partial sums -/

omit [FloatOps F] in
theorem oRowSet_eq (w : Fin 32) : oRowSet w = (orow w).set := by
  show ((View.whole (main_v8_scv : Ref sig .scVector)).slice (orow w)).set = _
  rw [View.set_slice]; exact Finset.map_refl

theorem orow_disj {w w' : Fin 32} (h : w ≠ w') : Disjoint (oRowSet w) (oRowSet w') := by
  rw [oRowSet_eq, oRowSet_eq]; exact Rect.part_disjoint odiv h

theorem wid_inj {c c' : Fin 2} {i i' : Fin 16} (h : wid c i = wid c' i') : c = c' ∧ i = i' := by
  have e : 2 * i.val + c.val = 2 * i'.val + c'.val := congrArg Fin.val h
  exact ⟨Fin.ext (by omega), Fin.ext (by omega)⟩

/-- The blocks of core `c`'s tiles. -/
def coreSet (c : Fin 2) : Finset S256x128.Idx := (Finset.univ : Finset (Fin 16)).biUnion fun i => oRowSet (wid c i)

theorem tile_disj (c : Fin 2) : ∀ i ∈ (Finset.univ : Finset (Fin 16)), ∀ j ∈ (Finset.univ : Finset (Fin 16)), i ≠ j →
    Disjoint (oRowSet (wid c i)) (oRowSet (wid c j)) :=
  fun _ _ _ _ h => orow_disj fun e => h (wid_inj e).2

theorem core_disj : ∀ c ∈ (Finset.univ : Finset (Fin 2)), ∀ c' ∈ (Finset.univ : Finset (Fin 2)), c ≠ c' → Disjoint (coreSet c) (coreSet c') := by
  intro c _ c' _ h
  unfold coreSet
  rw [Finset.disjoint_biUnion_left]; intro i _
  rw [Finset.disjoint_biUnion_right]; intro j _
  exact orow_disj fun e => h (wid_inj e).1

theorem core_cover : (Finset.univ : Finset (Fin 2)).biUnion coreSet = Finset.univ := by
  have hc : (Finset.univ : Finset (Fin 32)).biUnion oRowSet = Finset.univ :=
    (Finset.biUnion_congr rfl fun i _ => oRowSet_eq i).trans (Rect.biUnion_part odiv)
  refine Finset.eq_univ_of_forall fun j => ?_
  have hj : j ∈ (Finset.univ : Finset (Fin 32)).biUnion oRowSet := hc ▸ Finset.mem_univ j
  obtain ⟨w, -, hw⟩ := Finset.mem_biUnion.mp hj
  refine Finset.mem_biUnion.mpr ⟨⟨w.val % 2, Nat.mod_lt _ (by decide)⟩, Finset.mem_univ _, ?_⟩
  refine Finset.mem_biUnion.mpr ⟨⟨w.val / 2, by have := w.isLt; omega⟩, Finset.mem_univ _, ?_⟩
  rwa [show wid ⟨w.val % 2, Nat.mod_lt _ (by decide)⟩ ⟨w.val / 2, by have := w.isLt; omega⟩ = w from
    Fin.ext (show 2 * (w.val / 2) + w.val % 2 = w.val by omega)]

omit [FloatOps F] in
theorem oPts_cores (d : Dev nD) (f : S256x128.Idx → Elt F .f32) :
    (oLoc d ↦{fullShare} f : sProp 𝕄) = bigSep Finset.univ fun c : Fin 2 => bigSep Finset.univ fun i : Fin 16 => oRowPts (F := F) d (wid c i) f := by
  have h : (oLoc d ↦[(Finset.univ : Finset (Fin 2)).biUnion coreSet]{fullShare} f : sProp 𝕄) = bigSep Finset.univ fun c : Fin 2 => oLoc d ↦[coreSet c]{fullShare} f :=
    pointsTo_biUnion Finset.univ (ℓ := oLoc d) coreSet core_disj
  rw [core_cover] at h
  refine h.trans (bigSep_congr fun c _ => ?_)
  exact pointsTo_biUnion Finset.univ (ℓ := oLoc d) (fun i => oRowSet (wid c i)) (tile_disj c)

/-! ## The deal over the cores, and over one core's tiles -/

variable (xv gv : (d : Dev nD) → S12500x8x128.Idx → Elt F .f32) (sv : (d : Dev nD) → S16.Idx → Elt F .f32)
  (ov : (d : Dev nD) → S256x128.Idx → Elt F .f32)

omit [FloatOps F] in
theorem deal_cores (d : Dev nD) (f : S256x128.Idx → Elt F .f32) :
    (bigSep Finset.univ fun c : Fin 2 => stP xv gv sv d c f)
      = iprop((xLoc d ↦{fullShare} xv d) ∗ (gLoc d ↦{fullShare} gv d) ∗ (sLoc d ↦{fullShare} sv d) ∗ (oLoc d ↦{fullShare} f) : sProp 𝕄) := by
  rw [bigSep_sep', bigSep_sep', bigSep_sep', ← oPts_cores d f,
    ← Transfers.pointsTo_deal (Finset.univ : Finset (Fin 2)) Finset.univ_nonempty fullShare (ℓ := xLoc d),
    ← Transfers.pointsTo_deal (Finset.univ : Finset (Fin 2)) Finset.univ_nonempty fullShare (ℓ := gLoc d),
    ← Transfers.pointsTo_deal (Finset.univ : Finset (Fin 2)) Finset.univ_nonempty fullShare (ℓ := sLoc d)]

omit [FloatOps F] in
theorem deal_tiles (d : Dev nD) (c : Fin 2) (f : S256x128.Idx → Elt F .f32) :
    (bigSep Finset.univ fun i : Fin 16 => goP xv gv sv d c i f) = (stP xv gv sv d c f : sProp 𝕄) := by
  rw [bigSep_sep', bigSep_sep', bigSep_sep',
    ← Transfers.pointsTo_deal (Finset.univ : Finset (Fin 16)) Finset.univ_nonempty (qC c) (ℓ := xLoc d),
    ← Transfers.pointsTo_deal (Finset.univ : Finset (Fin 16)) Finset.univ_nonempty (qC c) (ℓ := gLoc d),
    ← Transfers.pointsTo_deal (Finset.univ : Finset (Fin 16)) Finset.univ_nonempty (qC c) (ℓ := sLoc d)]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P xv gv sv ov) 0 := by
  intro d c
  show stP xv gv sv d (Fin.cast nCore_zero c) (ov d) ⊢ |={Set.univ}=> iprop(
      (bigSep Finset.univ fun i : Fin ((K (F := F)).nSub 0) => goP xv gv sv d (Fin.cast nCore_zero c) (Fin.cast nSub_zero i) (ov d))
      ∗ ((bigSep Finset.univ fun i : Fin ((K (F := F)).nSub 0) => goP xv gv sv d (Fin.cast nCore_zero c) (Fin.cast nSub_zero i) (PART (xv d) (gv d) (sv d)))
          -∗ stP xv gv sv d (Fin.cast nCore_zero c) (PART (xv d) (gv d) (sv d))))
  rw [bigSep_tasks (F := F) (fun i => goP xv gv sv d (Fin.cast nCore_zero c) i (ov d)),
    bigSep_tasks (F := F) (fun i => goP xv gv sv d (Fin.cast nCore_zero c) i (PART (xv d) (gv d) (sv d))), deal_tiles, deal_tiles]
  iintro H; imodintro
  isplitl [H]; · iexact H
  iintro H; iexact H

theorem st0_eq (d : Dev nD) : (bigSep Finset.univ fun c : Fin ((K (F := F)).nCore 0) => (P xv gv sv ov).st 0 d c)
    = iprop((xLoc d ↦{fullShare} xv d) ∗ (gLoc d ↦{fullShare} gv d) ∗ (sLoc d ↦{fullShare} sv d) ∗ (oLoc d ↦{fullShare} ov d) : sProp 𝕄) :=
  (bigSep_cores (F := F) (fun c => stP xv gv sv d c (ov d))).trans (deal_cores xv gv sv d (ov d))
theorem dn0_eq (d : Dev nD) : (bigSep Finset.univ fun c : Fin ((K (F := F)).nCore 0) => (P xv gv sv ov).dn 0 d c)
    = iprop((xLoc d ↦{fullShare} xv d) ∗ (gLoc d ↦{fullShare} gv d) ∗ (sLoc d ↦{fullShare} sv d) ∗ (oLoc d ↦{fullShare} PART (xv d) (gv d) (sv d)) : sProp 𝕄) :=
  (bigSep_cores (F := F) (fun c => stP xv gv sv d c (PART (xv d) (gv d) (sv d)))).trans (deal_cores xv gv sv d _)

end Cert.KernelIdeal.Pf

end
-- ==== Proof.Regions.lean ====
/- The two TensorCore calls as regions of @main, between the host operations. -/
module

public import proofs.«01_k».proof.Proof.TcB
public import proofs.«01_k».proof.Proof.Deal

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations -/

/-- The operations before the three calls. -/
def ops1 : List (HloOp τ sig (Elt F)) :=
  [StableHlo.unary main_arg1 main_v0 (Host.exp : (⟨S_, .f32⟩ : BufTy).Contents (Elt F) → (⟨S_, .f32⟩ : BufTy).Contents (Elt F)),
   StableHlo.unary main_v0 main_v1 (broadcastInDim S16 ![] bcast_S_S16 : (⟨S_, .f32⟩ : BufTy).Contents (Elt F) → (⟨S16, .f32⟩ : BufTy).Contents (Elt F)),
   StableHlo.unary main_arg1 main_v2 (Host.exp : (⟨S_, .f32⟩ : BufTy).Contents (Elt F) → (⟨S_, .f32⟩ : BufTy).Contents (Elt F)),
   StableHlo.reshape main_v2 main_v3 (rfl : (.f32 : EltTy) = .f32) shapeCasts_S_S1x1,
   StableHlo.unary main_arg0 main_v4 ((transpose S100000x128 [1, 0] · transposes_S128x100000_S100000x128_1_0) : (⟨S128x100000, .f32⟩ : BufTy).Contents (Elt F) → (⟨S100000x128, .f32⟩ : BufTy).Contents (Elt F)),
   StableHlo.reshape main_v4 main_v5 (rfl : (.f32 : EltTy) = .f32) shapeCasts_S100000x128_S12500x8x128,
   StableHlo.unary main_arg2 main_v6 ((transpose S100000x128 [1, 0] · transposes_S128x100000_S100000x128_1_0) : (⟨S128x100000, .f32⟩ : BufTy).Contents (Elt F) → (⟨S100000x128, .f32⟩ : BufTy).Contents (Elt F)),
   StableHlo.reshape main_v6 main_v7 (rfl : (.f32 : EltTy) = .f32) shapeCasts_S100000x128_S12500x8x128]

/-- The operations after them. -/
def ops2 : List (HloOp τ sig (Elt F)) :=
  [StableHlo.reshape main_v10 main_v11 (rfl : (.f32 : EltTy) = .f32) shapeCasts_S12500x8x128_S100000x128,
   StableHlo.unary main_v11 main_v12 ((transpose S128x100000 [1, 0] · transposes_S100000x128_S128x100000_1_0) : (⟨S100000x128, .f32⟩ : BufTy).Contents (Elt F) → (⟨S128x100000, .f32⟩ : BufTy).Contents (Elt F))]

/-- What @main runs from the first call on. -/
def rest (d : Dev nD) : Prog (TpuEff nD τ sig (Elt F) (SparseCore.Sig (ΛP (F := F)) 1) .tc) PUnit := do
  sc.run d 0
  Prog.lift (.customCall (SparseCore.inner (Pipeline.entry 0)) ())
  Prog.lift (.customCall (SparseCore.inner (Pipeline.entry 1)) ())
  StableHlo.seq ops2
  pure ⟨⟩

theorem main_eq (d : Dev nD) : main (F := F) d = (StableHlo.seq ops1 >>= fun _ => rest d) := rfl

/-- The TensorCore's buffers that outlive the calls. -/
def bufs : Finset (DevRef τ sig) := (StableHlo.tcRefs τ sig).filter fun b => ¬ b.isScoped

omit [FloatOps F] in
theorem unscoped_held (d : Dev nD) (W : Valuation τ sig (Elt F)) :
    (unscopedBufs d (fun b => W (Proc.devRef .tc b)) : sProp 𝕄) = StableHlo.held (SparseCore.T d) bufs W := by
  unfold unscopedBufs StableHlo.held bufs StableHlo.tcRefs
  rw [Finset.filter_map, BI.bigSep_map]
  rfl

/-- One of them, whole. -/
abbrev pt (d : Dev nD) (b : Ref sig .tc) (f : Buf (Elt F) ((SparseCore.T (τ := τ) d).loc b)) : sProp 𝕄 := iprop((SparseCore.T d).loc b ↦{fullShare} f)

omit [FloatOps F] in
theorem held_eq (d : Dev nD) (W : Valuation τ sig (Elt F)) : (StableHlo.held (SparseCore.T d) bufs W : sProp 𝕄)
    = iprop(pt d main_arg0 (W (Proc.devRef .tc main_arg0)) ∗ pt d main_arg1 (W (Proc.devRef .tc main_arg1)) ∗ pt d main_arg2 (W (Proc.devRef .tc main_arg2)) ∗ pt d main_v0 (W (Proc.devRef .tc main_v0)) ∗ pt d main_v1 (W (Proc.devRef .tc main_v1)) ∗ pt d main_v2 (W (Proc.devRef .tc main_v2)) ∗ pt d main_v3 (W (Proc.devRef .tc main_v3)) ∗ pt d main_v4 (W (Proc.devRef .tc main_v4)) ∗ pt d main_v5 (W (Proc.devRef .tc main_v5)) ∗ pt d main_v6 (W (Proc.devRef .tc main_v6)) ∗ pt d main_v7 (W (Proc.devRef .tc main_v7)) ∗ pt d main_v8 (W (Proc.devRef .tc main_v8)) ∗ pt d main_v9 (W (Proc.devRef .tc main_v9)) ∗ pt d main_v10 (W (Proc.devRef .tc main_v10)) ∗ pt d main_v11 (W (Proc.devRef .tc main_v11)) ∗ pt d main_v12 (W (Proc.devRef .tc main_v12))) := by
  unfold StableHlo.held
  rw [bigSep_eq_bigSepL_of_eq [Proc.devRef .tc main_arg0, Proc.devRef .tc main_arg1, Proc.devRef .tc main_arg2, Proc.devRef .tc main_v0, Proc.devRef .tc main_v1, Proc.devRef .tc main_v2, Proc.devRef .tc main_v3, Proc.devRef .tc main_v4, Proc.devRef .tc main_v5, Proc.devRef .tc main_v6, Proc.devRef .tc main_v7, Proc.devRef .tc main_v8, Proc.devRef .tc main_v9, Proc.devRef .tc main_v10, Proc.devRef .tc main_v11, Proc.devRef .tc main_v12] (by decide) (by decide)]
  rfl

theorem ops1_sub : ∀ op ∈ (ops1 : List (HloOp τ sig (Elt F))), op.bufs ⊆ bufs := by
  have h : (ops1 : List (HloOp τ sig (Elt F))).Forall fun op => op.bufs ⊆ bufs :=
    ⟨(by decide : ({Proc.devRef .tc main_arg1, Proc.devRef .tc main_v0} : Finset (DevRef τ sig)) ⊆ bufs), (by decide : ({Proc.devRef .tc main_v0, Proc.devRef .tc main_v1} : Finset (DevRef τ sig)) ⊆ bufs),
      (by decide : ({Proc.devRef .tc main_arg1, Proc.devRef .tc main_v2} : Finset (DevRef τ sig)) ⊆ bufs), (by decide : ({Proc.devRef .tc main_v2, Proc.devRef .tc main_v3} : Finset (DevRef τ sig)) ⊆ bufs),
      (by decide : ({Proc.devRef .tc main_arg0, Proc.devRef .tc main_v4} : Finset (DevRef τ sig)) ⊆ bufs), (by decide : ({Proc.devRef .tc main_v4, Proc.devRef .tc main_v5} : Finset (DevRef τ sig)) ⊆ bufs),
      (by decide : ({Proc.devRef .tc main_arg2, Proc.devRef .tc main_v6} : Finset (DevRef τ sig)) ⊆ bufs), (by decide : ({Proc.devRef .tc main_v6, Proc.devRef .tc main_v7} : Finset (DevRef τ sig)) ⊆ bufs)⟩
  exact List.forall_iff_forall_mem.mp h
theorem ops2_sub : ∀ op ∈ (ops2 : List (HloOp τ sig (Elt F))), op.bufs ⊆ bufs := by
  have h : (ops2 : List (HloOp τ sig (Elt F))).Forall fun op => op.bufs ⊆ bufs :=
    ⟨(by decide : ({Proc.devRef .tc main_v10, Proc.devRef .tc main_v11} : Finset (DevRef τ sig)) ⊆ bufs), (by decide : ({Proc.devRef .tc main_v11, Proc.devRef .tc main_v12} : Finset (DevRef τ sig)) ⊆ bufs)⟩
  exact List.forall_iff_forall_mem.mp h
theorem ops1_fresh : ∀ op ∈ (ops1 : List (HloOp τ sig (Elt F))), op.fresh = ∅ := by
  have h : (ops1 : List (HloOp τ sig (Elt F))).Forall fun op => op.fresh = ∅ := ⟨rfl, rfl, rfl, rfl, rfl, rfl, rfl, rfl⟩
  exact List.forall_iff_forall_mem.mp h
theorem ops2_fresh : ∀ op ∈ (ops2 : List (HloOp τ sig (Elt F))), op.fresh = ∅ := by
  have h : (ops2 : List (HloOp τ sig (Elt F))).Forall fun op => op.fresh = ∅ := ⟨rfl, rfl⟩
  exact List.forall_iff_forall_mem.mp h

/-! ## What the arrays hold -/

variable (m : (ℓ : Loc nD τ sig) → Buf (Elt F) ℓ)

/-- The device's buffers after the operations before the calls. -/
def VA (d : Dev nD) : Valuation τ sig (Elt F) := StableHlo.after ops1 fun b => m (d, b)
def eV (d : Dev nD) : S1x1.Idx → F .f32 := VA m d (Proc.devRef .tc main_v3)
def xV (d : Dev nD) : S12500x8x128.Idx → F .f32 := VA m d (Proc.devRef .tc main_v5)
def gV (d : Dev nD) : S12500x8x128.Idx → F .f32 := VA m d (Proc.devRef .tc main_v7)
def sV (d : Dev nD) : S16.Idx → F .f32 := VA m d (Proc.devRef .tc main_v1)
def o8 (d : Dev nD) : S256x128.Idx → F .f32 := VA m d (Proc.devRef .tc main_v8)
def o9 (d : Dev nD) : S8x128.Idx → F .f32 := VA m d (Proc.devRef .tc main_v9)
def o10 (d : Dev nD) : S12500x8x128.Idx → F .f32 := VA m d (Proc.devRef .tc main_v10)
/-- The three calls' results. -/
def R8 (d : Dev nD) : S256x128.Idx → F .f32 := PART (xV m d) (gV m d) (sV m d)
def R9 (d : Dev nD) : S8x128.Idx → F .f32 := accA (eV m d) (xV m d) (gV m d) 19
def R10 (d : Dev nD) : S12500x8x128.Idx → F .f32 := resB (R8 m d) (R9 m d) (eV m d) (xV m d) (gV m d)
/-- The device's buffers after the calls, -/
def VB (d : Dev nD) : Valuation τ sig (Elt F) :=
  Function.update (Function.update (Function.update (VA m d) (Proc.devRef .tc main_v8) (R8 m d)) (Proc.devRef .tc main_v9) (R9 m d)) (Proc.devRef .tc main_v10) (R10 m d)
/-- and at the end. -/
def VC (d : Dev nD) : Valuation τ sig (Elt F) := StableHlo.after ops2 (VB m d)

/-! ## The two regions -/

/-- The prefetched tables' contents: there is no table. -/
abbrev adm' : (p : Fin 2) → (pcfgs (F := F) p).Adm := fun p => (cfgs p).toPCfg_adm

def pdats : (p : Fin 2) → (c : Dev nD) → Pipeline.Dat τ (Elt F) (HIx 1) ℕ UU ℕ (Pipeline.pin (pcfgs (F := F)) adm' p) c
  | 0 => fun c => datA (eV m c) (xV m c) (gV m c) (o9 m c) c
  | 1 => fun c => datB (R8 m c) (R9 m c) (eV m c) (xV m c) (gV m c) (o10 m c) c

/-- The core owes nothing, and what its waits recorded is below the end of the call. -/
def OWE (d : Dev nD) : sProp 𝕄 := iprop(∃ W, ⌜(K (F := F)).WBelow (SparseCore.T d) W (8 * (SparseCore.Cfg.Blocks.fst (Q := 1) (N := 1) 1))⌝ ∗ owes (SparseCore.T d) (0 : CellTallies nD τ sig (HIx 1)) W)

theorem owe_in {cfg : Pipeline.Cfg sig Λ₀} {d : Dev nD} (dat : Pipeline.Dat τ (Elt F) (HIx 1) ℕ UU ℕ cfg d) (t : Fin (cfg.N + 1))
    (h0 : dat.owed t = 0) (hr : dat.recorded t = recs (F := F) d) : (OWE d : sProp 𝕄) ⊢ dat.owesAt none t := by
  unfold OWE Pipeline.Dat.owesAt Pipeline.owesWithin Pipeline.Dat.bound
  rw [h0, hr]
  iintro ⟨%W, %hW, HO⟩
  iexists W
  isplitr
  · ipureintro; exact fun p hp => Or.inl (hW p hp)
  iexact HO

theorem owe_out {cfg : Pipeline.Cfg sig Λ₀} {d : Dev nD} (dat : Pipeline.Dat τ (Elt F) (HIx 1) ℕ UU ℕ cfg d) (t : Fin (cfg.N + 1))
    (h0 : dat.owed t = 0) (hr : dat.recorded t = recs (F := F) d) : dat.owesAt none t ⊢ (OWE d : sProp 𝕄) := by
  unfold OWE Pipeline.Dat.owesAt Pipeline.owesWithin Pipeline.Dat.bound
  rw [h0, hr]
  iintro ⟨%W, %hW, HO⟩
  iexists W
  isplitr
  · ipureintro
    intro p hp
    rcases hW hp with h | ⟨w, s, h⟩
    · exact h
    · rw [h]; exact Nat.zero_le _
  iexact HO

theorem prefHeld0 (d : Dev nD) (q) (pf) : (Pipeline.prefHeld (Ix := HIx 1) (Name := ℕ) (U := UU) (Lvl := ℕ) (Val := Elt F) (pcfgs (F := F) 0).pre d q pf : sProp 𝕄) = BI.emp :=
  by
  unfold Pipeline.prefHeld
  exact bigSep_univ_eq_bigSepL (I := Fin 0) [] (by decide) (by decide) _
theorem prefHeld1 (d : Dev nD) (q) (pf) : (Pipeline.prefHeld (Ix := HIx 1) (Name := ℕ) (U := UU) (Lvl := ℕ) (Val := Elt F) (pcfgs (F := F) 1).pre d q pf : sProp 𝕄) = BI.emp :=
  by
  unfold Pipeline.prefHeld
  exact bigSep_univ_eq_bigSepL (I := Fin 0) [] (by decide) (by decide) _

theorem arrays0 (d : Dev nD) (n : ℕ) : ((pdats m 0 d).arrays ((pdats m 0 d).arrAt · n) : sProp 𝕄)
    = iprop(pt d main_v3 (eV m d) ∗ pt d main_v5 (xV m d) ∗ pt d main_v7 (gV m d) ∗ pt d main_v9 ((pdats m 0 d).arrAt 3 n)) := by
  rw [Pipeline.arrays_eq (Pipeline.pin (pcfgs (F := F)) adm') (pdats m) (p := 0) d arr_whole1 (by intro w; fin_cases w <;> rfl)]
  refine (bigSep_W1 _).trans ?_
  rw [Pipeline.Dat.arrAt_in _ 0 rfl n, Pipeline.Dat.arrAt_in _ 1 rfl n, Pipeline.Dat.arrAt_in _ 2 rfl n]
  rfl

theorem arrays1 (d : Dev nD) (n : ℕ) : ((pdats m 1 d).arrays ((pdats m 1 d).arrAt · n) : sProp 𝕄)
    = iprop(pt d main_v8 (R8 m d) ∗ pt d main_v9 (R9 m d) ∗ pt d main_v3 (eV m d) ∗ pt d main_v5 (xV m d) ∗ pt d main_v7 (gV m d) ∗ pt d main_v10 ((pdats m 1 d).arrAt 5 n)) := by
  rw [Pipeline.arrays_eq (Pipeline.pin (pcfgs (F := F)) adm') (pdats m) (p := 1) d arr_whole2 (by intro w; fin_cases w <;> rfl)]
  refine (bigSep_W2 _).trans ?_
  rw [Pipeline.Dat.arrAt_in _ 0 rfl n, Pipeline.Dat.arrAt_in _ 1 rfl n, Pipeline.Dat.arrAt_in _ 2 rfl n, Pipeline.Dat.arrAt_in _ 3 rfl n, Pipeline.Dat.arrAt_in _ 4 rfl n]
  rfl

abbrev RS (p : Fin 2) := Pipeline.RegionSeg (pcfgs (F := F)) adm' (pdats m) none defs₀ 𝒱₀ (K (F := F)).L (K (F := F)).lev p

/-- Region 0, entered from its arrays. -/
def reg0 : RS m 0 where
  win := launch1.win.to₀
  block_pos := launch1.block_pos
  stage_whole := launch1.stage_whole
  K := PEmpty
  osem k := k.elim
  ho := Pipeline.OwnSemFacts.none _
  hbody d := (bodyA (eV m d) (xV m d) (gV m d) (o9 m d) d).loose
  hwaits := Pipeline.hwaits_of_owed_zero _ _ _ _ _ _ 0 fun _ _ => rfl
  pre d := iprop((pt d main_v3 (eV m d) ∗ pt d main_v5 (xV m d) ∗ pt d main_v7 (gV m d) ∗ pt d main_v9 (o9 m d)) ∗ OWE d)
  post d := iprop((pt d main_v3 (eV m d) ∗ pt d main_v5 (xV m d) ∗ pt d main_v7 (gV m d) ∗ pt d main_v9 (R9 m d)) ∗ OWE d)
  X _ := BI.emp
  Y _ := BI.emp
  Z _ := BI.emp
  hentry d := by
    rw [Pipeline.ownSems0_none, arrays0, prefHeld0]
    iintro ⟨⟨HA, HO⟩, -, -⟩
    imodintro
    isplitl [HA]; · iexact HA
    isplitr; · iempintro
    isplitl [HO]; · iapply (owe_in (pdats m 0 d) 0 rfl rfl); iexact HO
    isplitr <;> iempintro
  hin d := by
    rw [show (pdats m 0 d).Φ 0 = Pipeline.scopedRest spec1 d from rfl]
    iintro ⟨-, -, H⟩; iexact H
  hout d := by
    rw [show (pdats m 0 d).Φ (Fin.last _) = Pipeline.scopedRest spec1 d from rfl, Pipeline.ownSems0_none]
    iintro H
    isplitr; · iempintro
    isplitr; · iempintro
    iexact H
  hexit d := by
    rw [arrays0, show (pdats m 0 d).arrAt 3 (Pipeline.pin (pcfgs (F := F)) adm' 0).N = R9 m d from arrA _ _ _ _ _]
    iintro ⟨HA, HO, -, -⟩
    imodintro
    isplitl [HA]; · iexact HA
    iapply (owe_out (pdats m 0 d) _ rfl rfl); iexact HO

/-- Region 1, entered from its arrays. -/
def reg1 : RS m 1 where
  win := launch2.win.to₀
  block_pos := launch2.block_pos
  stage_whole := launch2.stage_whole
  K := PEmpty
  osem k := k.elim
  ho := Pipeline.OwnSemFacts.none _
  hbody d := (bodyB (R8 m d) (R9 m d) (eV m d) (xV m d) (gV m d) (o10 m d) d).loose
  hwaits := Pipeline.hwaits_of_owed_zero _ _ _ _ _ _ 1 fun _ _ => rfl
  pre d := iprop((pt d main_v8 (R8 m d) ∗ pt d main_v9 (R9 m d) ∗ pt d main_v3 (eV m d) ∗ pt d main_v5 (xV m d) ∗ pt d main_v7 (gV m d) ∗ pt d main_v10 (o10 m d)) ∗ OWE d)
  post d := iprop((pt d main_v8 (R8 m d) ∗ pt d main_v9 (R9 m d) ∗ pt d main_v3 (eV m d) ∗ pt d main_v5 (xV m d) ∗ pt d main_v7 (gV m d) ∗ pt d main_v10 (R10 m d)) ∗ OWE d)
  X _ := BI.emp
  Y _ := BI.emp
  Z _ := BI.emp
  hentry d := by
    rw [Pipeline.ownSems0_none, arrays1, prefHeld1]
    iintro ⟨⟨HA, HO⟩, -, -⟩
    imodintro
    isplitl [HA]; · iexact HA
    isplitr; · iempintro
    isplitl [HO]; · iapply (owe_in (pdats m 1 d) 0 rfl rfl); iexact HO
    isplitr <;> iempintro
  hin d := by
    rw [show (pdats m 1 d).Φ 0 = Pipeline.scopedRest spec2 d from rfl]
    iintro ⟨-, -, H⟩; iexact H
  hout d := by
    rw [show (pdats m 1 d).Φ (Fin.last _) = Pipeline.scopedRest spec2 d from rfl, Pipeline.ownSems0_none]
    iintro H
    isplitr; · iempintro
    isplitr; · iempintro
    iexact H
  hexit d := by
    rw [arrays1, show (pdats m 1 d).arrAt 5 (Pipeline.pin (pcfgs (F := F)) adm' 1).N = R10 m d from arrB _ _ _ _ _ _ _ ]
    iintro ⟨HA, HO, -, -⟩
    imodintro
    isplitl [HA]; · iexact HA
    iapply (owe_out (pdats m 1 d) _ rfl rfl); iexact HO

end Cert.KernelIdeal.Pf

end
-- ==== Proof.Main.lean ====
/- @main on the TensorCore, and the program's run. -/
module

public import proofs.«01_k».proof.Proof.Regions

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

theorem VB_ne (d : Dev nD) (b : DevRef τ sig) (h8 : b ≠ Proc.devRef .tc main_v8) (h9 : b ≠ Proc.devRef .tc main_v9) (h10 : b ≠ Proc.devRef .tc main_v10) :
    VB m d b = VA m d b := by
  unfold VB
  rw [Function.update_of_ne h10, Function.update_of_ne h9, Function.update_of_ne h8]
theorem VB_8 (d : Dev nD) : VB m d (Proc.devRef .tc main_v8) = R8 m d := by
  unfold VB
  rw [Function.update_of_ne (by decide), Function.update_of_ne (by decide), Function.update_self]
theorem VB_9 (d : Dev nD) : VB m d (Proc.devRef .tc main_v9) = R9 m d := by
  unfold VB
  rw [Function.update_of_ne (by decide), Function.update_self]
theorem VB_10 (d : Dev nD) : VB m d (Proc.devRef .tc main_v10) = R10 m d := by
  unfold VB
  rw [Function.update_self]

/-- The buffers after the calls, one by one. -/
theorem held_VB (d : Dev nD) : (StableHlo.held (SparseCore.T d) bufs (VB m d) : sProp 𝕄)
    = iprop(pt d main_arg0 (VA m d (Proc.devRef .tc main_arg0)) ∗ pt d main_arg1 (VA m d (Proc.devRef .tc main_arg1)) ∗ pt d main_arg2 (VA m d (Proc.devRef .tc main_arg2)) ∗ pt d main_v0 (VA m d (Proc.devRef .tc main_v0)) ∗ pt d main_v1 (VA m d (Proc.devRef .tc main_v1)) ∗ pt d main_v2 (VA m d (Proc.devRef .tc main_v2)) ∗ pt d main_v3 (VA m d (Proc.devRef .tc main_v3)) ∗ pt d main_v4 (VA m d (Proc.devRef .tc main_v4)) ∗ pt d main_v5 (VA m d (Proc.devRef .tc main_v5)) ∗ pt d main_v6 (VA m d (Proc.devRef .tc main_v6)) ∗ pt d main_v7 (VA m d (Proc.devRef .tc main_v7)) ∗ pt d main_v8 (R8 m d) ∗ pt d main_v9 (R9 m d) ∗ pt d main_v10 (R10 m d) ∗ pt d main_v11 (VA m d (Proc.devRef .tc main_v11)) ∗ pt d main_v12 (VA m d (Proc.devRef .tc main_v12))) := by
  rw [held_eq, VB_8, VB_9, VB_10]
  rw [VB_ne m d (Proc.devRef .tc main_arg0) (by decide) (by decide) (by decide)]
  rw [VB_ne m d (Proc.devRef .tc main_arg1) (by decide) (by decide) (by decide)]
  rw [VB_ne m d (Proc.devRef .tc main_arg2) (by decide) (by decide) (by decide)]
  rw [VB_ne m d (Proc.devRef .tc main_v0) (by decide) (by decide) (by decide)]
  rw [VB_ne m d (Proc.devRef .tc main_v1) (by decide) (by decide) (by decide)]
  rw [VB_ne m d (Proc.devRef .tc main_v2) (by decide) (by decide) (by decide)]
  rw [VB_ne m d (Proc.devRef .tc main_v3) (by decide) (by decide) (by decide)]
  rw [VB_ne m d (Proc.devRef .tc main_v4) (by decide) (by decide) (by decide)]
  rw [VB_ne m d (Proc.devRef .tc main_v5) (by decide) (by decide) (by decide)]
  rw [VB_ne m d (Proc.devRef .tc main_v6) (by decide) (by decide) (by decide)]
  rw [VB_ne m d (Proc.devRef .tc main_v7) (by decide) (by decide) (by decide)]
  rw [VB_ne m d (Proc.devRef .tc main_v11) (by decide) (by decide) (by decide)]
  rw [VB_ne m d (Proc.devRef .tc main_v12) (by decide) (by decide) (by decide)]

/-! ## The launch element of the ghost state -/

omit [FloatOps F] in
theorem own_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

abbrev pins : (p : Fin 2) → Pipeline.Cfg sig Λ₀ := Pipeline.pin (pcfgs (F := F)) adm'

def u₀ : UU := (initOf (K (F := F)).hsCells (K (F := F)).hsToks, (initOf (Pipeline.cells (pins (F := F)) cellOf_inj) (Pipeline.launchToks (pins (F := F)) cellOf_inj), 1))

/-- What a core has of the pipelines' rounds at the start. -/
def G (d : Dev nD) : sProp 𝕄 :=
  iprop((bigSep Finset.univ fun p => Pipeline.cellsGhost (pins (F := F)) EP p d) ∗ bigSep Finset.univ fun p => Pipeline.toksInit (pins (F := F)) EP p d)

omit [FloatOps F] in
theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (xV m) (gV m) (sV m) (o8 m)).x q thr) := by
  unfold u₀
  iintro Hu
  ihave H := (own_split _ _) $$ Hu
  icases H with ⟨HH, HP⟩
  imod (Pipeline.fund_ghost (pins (F := F)) EP cellOf_inj) $$ HP with ⟨Hc, Ht⟩
  imodintro
  isplitl [HH]; · iexact HH
  isplitl [Hc Ht]
  · unfold G; rw [bigSep_sep']
    isplitl [Hc]; · iexact Hc
    iexact Ht
  rw [show (bigSep Finset.univ fun thr : Thread nD τ => bigSep Finset.univ fun q : Fin 1 => (P (xV m) (gV m) (sV m) (o8 m)).x q thr) = bigSep Finset.univ fun _ => iprop(emp) from
    bigSep_congr fun _ _ => bigSep_univ_of_subsingleton (0 : Fin 1), emp_all]
  iempintro

theorem G_eq (d : Dev nD) : (G d : sProp 𝕄) = iprop((Pipeline.cellsGhost (pins (F := F)) EP 0 d ∗ Pipeline.cellsGhost (pins (F := F)) EP 1 d)
    ∗ (Pipeline.toksInit (pins (F := F)) EP 0 d ∗ Pipeline.toksInit (pins (F := F)) EP 1 d)) := by
  unfold G
  rw [bigSep_univ_eq_bigSepL [0, 1] (by decide) (by decide), bigSep_univ_eq_bigSepL [0, 1] (by decide) (by decide)]
  rfl

/-! ## @main on the TensorCore -/

theorem tcSt_one (d : Dev nD) : ∃ R : sProp 𝕄, (K (F := F)).tcSt EH d 1 = iprop(OWE d ∗ R) := by
  unfold SparseCore.Cfg.tcSt OWE
  rw [SparseCore.Cfg.Otc_end _ d (le_refl 1)]
  exact ⟨_, rfl⟩

theorem wp_entry (p : Fin 2) (d : Dev nD) (Φ : PUnit → sProp 𝕄) :
    wp frame (wpE (D (F := F)) 𝒱 (SparseCore.T d) none) Set.univ (Prog.lift (.customCall (Pipeline.entry p) ())) Φ
      ⊢ wp frame (wpE ((K (F := F)).defs (D (F := F))) 𝒱 (SparseCore.T d) none) Set.univ (Prog.lift (.customCall (SparseCore.inner (Pipeline.entry p)) ())) Φ :=
  (K (F := F)).wp_liftProg (D (F := F)) 𝒱 (SparseCore.T d) Set.univ none _ Φ

theorem wp_reg [∀ e, Nonempty (Elt F e)] {p : Fin 2} (R : RS m p) (d : Dev nD) (Φ : PUnit → sProp 𝕄) :
    iprop(((boundary (SparseCore.T d) ∗ R.post d) -∗ Φ ⟨⟩) ∗ boundary (SparseCore.T d) ∗ R.pre d ∗ levAts (K (F := F)).L (K (F := F)).lev
        ∗ Pipeline.cellsGhost (pins (F := F)) EP p d ∗ Pipeline.toksInit (pins (F := F)) EP p d)
      ⊢ wp frame (wpE ((K (F := F)).defs (D (F := F))) 𝒱 (SparseCore.T d) none) Set.univ (Prog.lift (.customCall (SparseCore.inner (Pipeline.entry p)) ())) Φ := by
  refine BI.Entails.trans ?_ (wp_entry p d Φ)
  refine BI.Entails.trans ?_ (Pipeline.RegionSeg.wp (pcfgs (F := F)) adm' (pdats m) none cellOf_inj EP defs₀ 𝒱₀ (K (F := F)).L (K (F := F)).lev R d none (fun _ h => nomatch h) (fun a => .ret a) Φ)
  rw [wp_ret]
  show (_ : sProp 𝕄) ⊢ _
  iintro ⟨HK, H⟩
  isplitl [HK]
  · iintro HB
    imodintro
    iapply HK; iexact HB
  iexact H

theorem pre0 (d : Dev nD) : (reg0 m).pre d = iprop((pt d main_v3 (eV m d) ∗ pt d main_v5 (xV m d) ∗ pt d main_v7 (gV m d) ∗ pt d main_v9 (o9 m d)) ∗ OWE d) := rfl
theorem post0 (d : Dev nD) : (reg0 m).post d = iprop((pt d main_v3 (eV m d) ∗ pt d main_v5 (xV m d) ∗ pt d main_v7 (gV m d) ∗ pt d main_v9 (R9 m d)) ∗ OWE d) := rfl
theorem pre1 (d : Dev nD) : (reg1 m).pre d = iprop((pt d main_v8 (R8 m d) ∗ pt d main_v9 (R9 m d) ∗ pt d main_v3 (eV m d) ∗ pt d main_v5 (xV m d) ∗ pt d main_v7 (gV m d) ∗ pt d main_v10 (o10 m d)) ∗ OWE d) := rfl
theorem post1 (d : Dev nD) : (reg1 m).post d = iprop((pt d main_v8 (R8 m d) ∗ pt d main_v9 (R9 m d) ∗ pt d main_v3 (eV m d) ∗ pt d main_v5 (xV m d) ∗ pt d main_v7 (gV m d) ∗ pt d main_v10 (R10 m d)) ∗ OWE d) := rfl

abbrev FIN (d : Dev nD) : sProp 𝕄 := StableHlo.held (SparseCore.T d) bufs (VC m d)

theorem hmain [∀ e, Nonempty (Elt F e)] (κ : GSem nD τ sig → ℕ) (d : Dev nD) :
    iprop((K (F := F)).ctx EH (P (xV m) (gV m) (sV m) (o8 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d fun b => m ((SparseCore.T d).loc b) : sProp 𝕄) = StableHlo.held (SparseCore.T d) bufs (fun b => m (d, b)) from unscoped_held d (fun b => m (d, b)),
    main_eq, G_eq]
  obtain ⟨R, hR⟩ := tcSt_one (F := F) d
  iintro ⟨#Hctx, Hst, ⟨Hb, Hbufs, Hts, -⟩, ⟨Hc0, Hc1⟩, Ht0, Ht1⟩
  ihave #Hlev := ((K (F := F)).ctx_levAts κ) $$ Hctx
  iapply (StableHlo.wp_seq 𝒱 none Set.univ d bufs (fun _ => rest d) ops1 ops1_sub ops1_fresh (fun b => m (d, b))) $$ [Hb Hbufs]
  · isplitl [Hb]; · iexact Hb
    iexact Hbufs
  iintro ⟨Hb, Hbufs⟩
  ihave H := (Entails.of_eq (show (StableHlo.held (SparseCore.T d) bufs (StableHlo.after ops1 fun b => m (d, b)) : sProp 𝕄) = _ from held_eq d (VA m d))) $$ Hbufs
  icases H with ⟨ARG0, ARG1, ARG2, V0, V1, V2, V3, V4, V5, V6, V7, V8, V9, V10, V11, V12⟩
  unfold rest
  rw [wp_bind]
  iapply ((K (F := F)).wp_run (D (F := F)) 𝒱 (EH := EH) (P := P (xV m) (gV m) (sV m) (o8 m)) κ d 0)
  isplitr; · iexact Hctx
  isplitl [Hst]; · iexact Hst
  isplitl [V5 V7 V1 V8]
  · rw [st0_eq]
    isplitl [V5]; · iexact V5
    isplitl [V7]; · iexact V7
    isplitl [V1]; · iexact V1
    iexact V8
  iintro ⟨Hst, Hdn⟩
  ihave Hdn' := (Entails.of_eq (dn0_eq (xV m) (gV m) (sV m) (o8 m) d)) $$ Hdn
  icases Hdn' with ⟨V5, V7, V1, V8⟩
  ihave Hst' := (Entails.of_eq (show (K (F := F)).tcSt EH d ((0 : Fin 1).val + 1) = _ from hR)) $$ Hst
  icases Hst' with ⟨HO, HR⟩
  rw [wp_bind]
  iapply (wp_reg m (reg0 m) d)
  isplitr [Hb V3 V5 V7 V9 HO Hc0 Ht0]
  rotate_left
  · isplitl [Hb]; · iexact Hb
    isplitl [V3 V5 V7 V9 HO]
    · rw [pre0]
      isplitr [HO]; rotate_left; · iexact HO
      isplitl [V3]; · iexact V3
      isplitl [V5]; · iexact V5
      isplitl [V7]; · iexact V7
      iexact V9
    isplitr; · iexact Hlev
    isplitl [Hc0]; · iexact Hc0
    iexact Ht0
  iintro ⟨Hb, HP⟩
  ihave HP' := (Entails.of_eq (post0 m d)) $$ HP
  icases HP' with ⟨⟨V3, V5, V7, V9⟩, HO⟩
  rw [wp_bind]
  iapply (wp_reg m (reg1 m) d)
  isplitr [Hb V8 V9 V3 V5 V7 V10 HO Hc1 Ht1]
  rotate_left
  · isplitl [Hb]; · iexact Hb
    isplitl [V8 V9 V3 V5 V7 V10 HO]
    · rw [pre1]
      isplitr [HO]; rotate_left; · iexact HO
      isplitl [V8]; · iexact V8
      isplitl [V9]; · iexact V9
      isplitl [V3]; · iexact V3
      isplitl [V5]; · iexact V5
      isplitl [V7]; · iexact V7
      iexact V10
    isplitr; · iexact Hlev
    isplitl [Hc1]; · iexact Hc1
    iexact Ht1
  iintro ⟨Hb, HP⟩
  ihave HP' := (Entails.of_eq (post1 m d)) $$ HP
  icases HP' with ⟨⟨V8, V9, V3, V5, V7, V10⟩, HO⟩
  iapply (StableHlo.wp_seq 𝒱 none Set.univ d bufs (fun _ => pure ⟨⟩) ops2 ops2_sub ops2_fresh (VB m d)) $$ [Hb ARG0 ARG1 ARG2 V0 V1 V2 V3 V4 V5 V6 V7 V8 V9 V10 V11 V12]
  · isplitl [Hb]; · iexact Hb
    rw [held_VB]
    isplitl [ARG0]; · iexact ARG0
    isplitl [ARG1]; · iexact ARG1
    isplitl [ARG2]; · iexact ARG2
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    iexact V12
  iintro ⟨Hb, Hbufs⟩
  rw [wp_pure]
  imodintro
  isplitl [HO HR]
  · rw [hR]
    isplitl [HO]; · iexact HO
    iexact HR
  isplitl [Hbufs]; · iexact Hbufs
  isplitl [Hb]; · iexact Hb
  iexact Hts

/-! ## The end of the run -/

theorem VC_arg (d : Dev nD) : VC m d (Proc.devRef .tc main_arg0) = m (d, Proc.devRef .tc main_arg0)
    ∧ VC m d (Proc.devRef .tc main_arg1) = m (d, Proc.devRef .tc main_arg1) ∧ VC m d (Proc.devRef .tc main_arg2) = m (d, Proc.devRef .tc main_arg2) := by
  refine ⟨?_, ?_, ?_⟩ <;> (unfold VC ops2; after_results; rw [VB_ne m d _ (by decide) (by decide) (by decide)]; unfold VA ops1; after_results)

def fq (d : Dev nD) (s' : Phys nD τ sig (Elt F)) : Prop :=
  s'.mem.mem ((SparseCore.T d).loc main_v12) = VC m d (Proc.devRef .tc main_v12)
    ∧ s'.mem.mem ((SparseCore.T d).loc main_arg0) = m (d, Proc.devRef .tc main_arg0)
    ∧ s'.mem.mem ((SparseCore.T d).loc main_arg1) = m (d, Proc.devRef .tc main_arg1)
    ∧ s'.mem.mem ((SparseCore.T d).loc main_arg2) = m (d, Proc.devRef .tc main_arg2)

set_option maxRecDepth 16384 in
theorem hfin (d : Dev nD) (s' : Phys nD τ sig (Elt F)) : iprop(FIN m d ∗ SI s') ⊢ (⌜fq m d s'⌝ : sProp 𝕄) := by
  rw [show (FIN m d : sProp 𝕄) = _ from held_eq d (VC m d), (VC_arg m d).1, (VC_arg m d).2.1, (VC_arg m d).2.2]
  iintro ⟨⟨A0, A1, A2, -, -, -, -, -, -, -, -, -, -, -, -, O⟩, HSI⟩
  ihave H := (persistent_entails_right (SI_pointsTo_agree (st := s') (ℓ := (SparseCore.T d).loc main_v12) (I := Finset.univ) (q := fullShare) (f := VC m d (Proc.devRef .tc main_v12)))) $$ [HSI O]
  · isplitl [HSI] <;> iassumption
  icases H with ⟨%h0, HSI, -⟩
  ihave H := (persistent_entails_right (SI_pointsTo_agree (st := s') (ℓ := (SparseCore.T d).loc main_arg0) (I := Finset.univ) (q := fullShare) (f := m (d, Proc.devRef .tc main_arg0)))) $$ [HSI A0]
  · isplitl [HSI] <;> iassumption
  icases H with ⟨%h1, HSI, -⟩
  ihave H := (persistent_entails_right (SI_pointsTo_agree (st := s') (ℓ := (SparseCore.T d).loc main_arg1) (I := Finset.univ) (q := fullShare) (f := m (d, Proc.devRef .tc main_arg1)))) $$ [HSI A1]
  · isplitl [HSI] <;> iassumption
  icases H with ⟨%h2, HSI, -⟩
  ihave H := (SI_pointsTo_agree (st := s') (ℓ := (SparseCore.T d).loc main_arg2) (I := Finset.univ) (q := fullShare) (f := m (d, Proc.devRef .tc main_arg2))) $$ [HSI A2]
  · isplitl [HSI] <;> iassumption
  icases H with %h3
  ipureintro
  exact ⟨funext fun i => h0 i (Finset.mem_univ i), funext fun i => h1 i (Finset.mem_univ i), funext fun i => h2 i (Finset.mem_univ i), funext fun i => h3 i (Finset.mem_univ i)⟩

/-- Every weakly fair run ends, with the result below, the arguments as they were and every semaphore at zero. -/
theorem run_main [∀ e, Nonempty (Elt F e)] :
    θ_run (Cert.KernelIdeal.defs (F := F)) (Cert.KernelIdeal.threads (F := F)) ⟨m, fun _ => 0, ρ⟩ fun r =>
      (∀ c : Dev nD, r.2.mem ((SparseCore.T c).loc main_v12) = VC m c (Proc.devRef .tc main_v12)
        ∧ r.2.mem ((SparseCore.T c).loc main_arg0) = m (c, Proc.devRef .tc main_arg0)
        ∧ r.2.mem ((SparseCore.T c).loc main_arg1) = m (c, Proc.devRef .tc main_arg1)
        ∧ r.2.mem ((SparseCore.T c).loc main_arg2) = m (c, Proc.devRef .tc main_arg2)) ∧ r.2.sem = fun _ => 0 :=
  SparseCore.Cfg.θ_run_sc_quiescent (K := K (F := F)) (D := D (F := F)) (𝒱 := 𝒱) (EH := EH) (P := P (xV m) (gV m) (sV m) (o8 m)) (A := ∅) facts v₀
    (fun q hq => match q with | 0 => nomatch hq)
    (fun q _ => match q with | 0 => tileObl (xV m) (gV m) (sV m) (o8 m) facts)
    (fun q _ => match q with | 0 => SparseCore.Cfg.VecSplit.of_plain (vecSplit (xV m) (gV m) (sV m) (o8 m)))
    m ρ main (fun d => G d) (FIN m) (u₀ (F := F)) (sep_elim_left.trans (hu₀ m)) (hmain m ρ) (fq m) (hfin m) _ (fun _ h hz => ⟨h, hz⟩)

end Cert.KernelIdeal.Pf

end
-- ==== Proof.Same.lean ====
/- The kernel and its ideal reading are one text: the frame of the one is the frame of the other. -/
module
public import proofs.«01_k».proof.Defs
public import proofs.«01_k».proof.Proof.Gen.Kernel
public import proofs.«01_k».proof.Proof.Gen.KernelIdeal
public import proofs.«01_k».proof.Proof.Main
@[expose] public section
noncomputable section
namespace Cert.Proof
open Idealize.ShloMosaic Idealize.SL.Sem
variable {F : FTy → Type} [FloatOps F]
section
open Cert.KernelIdeal Cert.KernelIdeal.Facts₀ Cert.KernelIdeal.Facts
theorem tile_same (c) (s) : Cert.Kernel.defs₀ (F := F) (.scVector c s) 0 = Cert.KernelIdeal.defs₀ (F := F) (.scVector c s) 0 := by exact rfl
theorem bodyA_same : Cert.Kernel.defs₀ (F := F) .tc 1 = Cert.KernelIdeal.defs₀ (F := F) .tc 1 := by funext ⟨t, s⟩; exact rfl
theorem bodyB_same : Cert.Kernel.defs₀ (F := F) .tc 2 = Cert.KernelIdeal.defs₀ (F := F) .tc 2 := by funext ⟨t, s⟩; exact rfl
theorem bodies_same : Cert.Kernel.defs₀ (F := F) = Cert.KernelIdeal.defs₀ (F := F) := by
  funext p l a
  match p, l, a with
  | .scVector c s, 0, _ => exact congrFun (tile_same c s) _
  | .tc, 1, a => exact congrFun bodyA_same a
  | .tc, 2, a => exact congrFun bodyB_same a
  | .tc, 0, _ => exact rfl
  | .scVector c s, 1, _ => exact rfl
  | .scVector c s, 2, _ => exact rfl
  | .scScalar c, 0, _ => exact rfl
  | .scScalar c, 1, _ => exact rfl
  | .scScalar c, 2, _ => exact rfl
set_option maxHeartbeats 1000000 in
theorem cfgB_same : Cert.Kernel.cfg2 = Cert.KernelIdeal.cfg2 := by exact rfl
theorem cfgA_same : Cert.Kernel.cfg1 = Cert.KernelIdeal.cfg1 := by exact rfl
theorem cfgs_same : Cert.Kernel.cfgs = Cert.KernelIdeal.cfgs := by
  funext p
  match p with
  | 0 => exact cfgA_same
  | 1 => exact cfgB_same

/-- The SparseCore launch over given pipelines. -/
abbrev scOf (cs : Fin 2 → Pipeline.Cfg sig Λ₀) : SparseCore.Cfg τ sig (Pipeline.Sig Λ₀ (Fin 2) fun p => ((cs p).toPCfg (Val := Elt F)).Adm) 1 where
  kind := scKind
  nCore := scNCore
  nSub := scNSub
  hkind := hscKind
  hCore := hscCore
  hSub := hscSub
  body := fun | 0 => Pipeline.kernel 0 | ⟨_ + 1, h⟩ => absurd h (Nat.not_lt.2 (Nat.le_add_left _ _))
  args := fun | 0 => ⟨⟩ | ⟨_ + 1, h⟩ => absurd h (Nat.not_lt.2 (Nat.le_add_left _ _))
  start := sc_start
  done := sc_done
  go := sc_go
  taskDone := sc_taskDone

/-- @main over given pipelines. -/
def mainOf (cs : Fin 2 → Pipeline.Cfg sig Λ₀) : Dev nD → Prog (TpuEff nD τ sig (Elt F) (SparseCore.Sig (Pipeline.Sig Λ₀ (Fin 2) fun p => ((cs p).toPCfg (Val := Elt F)).Adm) 1) .tc) PUnit := fun d => do
  hlo rfl (StableHlo.unary main_arg1 main_v0 (Host.exp : (⟨S_, .f32⟩ : BufTy).Contents (Elt F) → (⟨S_, .f32⟩ : BufTy).Contents (Elt F))) (fun _ => .ret ⟨⟩)
  hlo rfl (StableHlo.unary main_v0 main_v1 (broadcastInDim S16 ![] bcast_S_S16 : (⟨S_, .f32⟩ : BufTy).Contents (Elt F) → (⟨S16, .f32⟩ : BufTy).Contents (Elt F))) (fun _ => .ret ⟨⟩)
  hlo rfl (StableHlo.unary main_arg1 main_v2 (Host.exp : (⟨S_, .f32⟩ : BufTy).Contents (Elt F) → (⟨S_, .f32⟩ : BufTy).Contents (Elt F))) (fun _ => .ret ⟨⟩)
  hlo rfl (StableHlo.reshape main_v2 main_v3 (rfl : (.f32 : EltTy) = .f32) shapeCasts_S_S1x1) (fun _ => .ret ⟨⟩)
  hlo rfl (StableHlo.unary main_arg0 main_v4 ((transpose S100000x128 [1, 0] · transposes_S128x100000_S100000x128_1_0) : (⟨S128x100000, .f32⟩ : BufTy).Contents (Elt F) → (⟨S100000x128, .f32⟩ : BufTy).Contents (Elt F))) (fun _ => .ret ⟨⟩)
  hlo rfl (StableHlo.reshape main_v4 main_v5 (rfl : (.f32 : EltTy) = .f32) shapeCasts_S100000x128_S12500x8x128) (fun _ => .ret ⟨⟩)
  hlo rfl (StableHlo.unary main_arg2 main_v6 ((transpose S100000x128 [1, 0] · transposes_S128x100000_S100000x128_1_0) : (⟨S128x100000, .f32⟩ : BufTy).Contents (Elt F) → (⟨S100000x128, .f32⟩ : BufTy).Contents (Elt F))) (fun _ => .ret ⟨⟩)
  hlo rfl (StableHlo.reshape main_v6 main_v7 (rfl : (.f32 : EltTy) = .f32) shapeCasts_S100000x128_S12500x8x128) (fun _ => .ret ⟨⟩)
  (scOf cs).run d 0
  Prog.lift (.customCall (SparseCore.inner (Pipeline.entry 0)) ())
  Prog.lift (.customCall (SparseCore.inner (Pipeline.entry 1)) ())
  hlo rfl (StableHlo.reshape main_v10 main_v11 (rfl : (.f32 : EltTy) = .f32) shapeCasts_S12500x8x128_S100000x128) (fun _ => .ret ⟨⟩)
  hlo rfl (StableHlo.unary main_v11 main_v12 ((transpose S128x100000 [1, 0] · transposes_S100000x128_S128x100000_1_0) : (⟨S100000x128, .f32⟩ : BufTy).Contents (Elt F) → (⟨S128x100000, .f32⟩ : BufTy).Contents (Elt F))) (fun _ => .ret ⟨⟩)
  pure ⟨⟩

/-- The frame of the run over given pipelines and bodies. -/
def RunOf (cs : Fin 2 → Pipeline.Cfg sig Λ₀) (d₀ : Defs nD τ sig (Elt F) Λ₀) (m : (ℓ : Loc nD τ sig) → Buf (Elt F) ℓ) (ρ : Dev nD → PrngReg) : Prop :=
  θ_run ((scOf (F := F) cs).defs (Pipeline.defs (fun p => (cs p).toPCfg) d₀)) ((scOf (F := F) cs).threads (mainOf cs)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0

theorem sc_same : Cert.Kernel.sc (F := F) = scOf (F := F) Cert.Kernel.cfgs := by exact rfl

set_option maxHeartbeats 2000000 in
theorem main_same : Cert.Kernel.main (F := F) = mainOf (F := F) Cert.Kernel.cfgs := by unfold Cert.Kernel.main mainOf; exact rfl
theorem threads_same : Cert.Kernel.threads (F := F) = (scOf (F := F) Cert.Kernel.cfgs).threads (mainOf Cert.Kernel.cfgs) := by
  unfold Cert.Kernel.threads
  exact congrArg (scOf (F := F) Cert.Kernel.cfgs).threads main_same
theorem defs_same : Cert.Kernel.defs (F := F) = (scOf (F := F) Cert.Kernel.cfgs).defs (Pipeline.defs (fun p => (Cert.Kernel.cfgs p).toPCfg) Cert.Kernel.defs₀) := by
  unfold Cert.Kernel.defs
  exact rfl
theorem run_congr {nD : ℕ} {τ : Topo} {sig : RefSig} {Val : EltTy → Type} {Λ : Labels} {d d' : Defs nD τ sig Val Λ}
    {t t' : (c : Thread nD τ) → Prog (TpuEff nD τ sig Val Λ c.2) PUnit} {st} {Q} (hd : d = d') (ht : t = t') (h : θ_run d' t' st Q) : θ_run d t st Q := by
  rw [hd, ht]; exact h
/-- The kernel's run, at any float values, read at its arguments. -/
theorem frame_any {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0 :=
  (θ_run (Cert.KernelIdeal.defs (F := F)) _ _).mono (fun _ h => ⟨fun c => (h.1 c).2, h.2⟩) (Cert.KernelIdeal.Pf.run_main m ρ)

/-- The kernel and its ideal reading have one text, so one run. -/
theorem frame_kernel : Cert.quiescent_Kernel := fun m ρ _ => by
  have h : RunOf (F := Bits) Cert.KernelIdeal.cfgs Cert.KernelIdeal.defs₀ m ρ := frame_any (F := Bits) m ρ
  rw [← cfgs_same, ← bodies_same] at h
  exact run_congr defs_same threads_same h

end

end Cert.Proof

end
-- ==== Proof.Sums.lean ====
/- Sums of real numbers cut into blocks: the two orders in which the kernel adds up a column of
100000 numbers give the plain sum.
-/
module

public import Mathlib.Analysis.SpecialFunctions.Exp
public import Mathlib.Algebra.BigOperators.Intervals

@[expose] public section

namespace Cert.Sums

open Finset

/-- A sum over `a * b` numbers, taken as `a` runs of `b` numbers. -/
theorem sum_runs (f : ℕ → ℝ) (b : ℕ) : ∀ a : ℕ,
    ∑ t ∈ range a, ∑ s ∈ range b, f (b * t + s) = ∑ v ∈ range (b * a), f v
  | 0 => by simp
  | a + 1 => by
      rw [sum_range_succ, sum_runs f b a, Nat.mul_succ, sum_range_add]

/-- The same sum with the place in the run counted outside. -/
theorem sum_strides (f : ℕ → ℝ) (a b : ℕ) :
    ∑ s ∈ range b, ∑ t ∈ range a, f (b * t + s) = ∑ v ∈ range (b * a), f v := by
  rw [sum_comm, sum_runs]

/-- Each of the `a` numbers `h 0, …` taken `b` times in a row. -/
theorem sum_repeat (h : ℕ → ℝ) (b : ℕ) (hb : 0 < b) : ∀ a : ℕ,
    ∑ r ∈ range (b * a), h (r / b) = b * ∑ k ∈ range a, h k
  | 0 => by simp
  | a + 1 => by
      rw [Nat.mul_succ, sum_range_add, sum_repeat h b hb a, sum_range_succ, mul_add]
      congr 1
      rw [sum_congr rfl (g := fun _ => h a) fun x hx => ?_]
      · simp
      · rw [Nat.mul_add_div hb, Nat.div_eq_of_lt (mem_range.1 hx), Nat.add_zero]

/-- The sum of a column: the head in eight strides of 7380 numbers, the tail in 32 runs of 1280
    numbers each of which is counted eight times and divided by eight. -/
theorem column (f : ℕ → ℝ) :
    (∑ r ∈ range 256, ∑ n ∈ range 1280, f (8 * (7380 + 160 * (r / 8)) + n)) * (1 / 8)
      + ∑ s ∈ range 8, ∑ t ∈ range 7380, f (8 * t + s)
      = ∑ v ∈ range 100000, f v := by
  rw [sum_strides f 7380 8,
    show (256 : ℕ) = 8 * 32 from rfl,
    sum_repeat (fun k => ∑ n ∈ range 1280, f (8 * (7380 + 160 * k) + n)) 8 (by norm_num) 32,
    show (100000 : ℕ) = 8 * 7380 + 1280 * 32 from rfl, sum_range_add, ← sum_runs _ 1280 32]
  have h : ∀ k n, 8 * (7380 + 160 * k) + n = 8 * 7380 + (1280 * k + n) := fun k n => by ring
  simp only [h]
  push_cast
  ring

/-- A softmax is the same whatever number is taken off the exponents. -/
theorem softmax_shift {ι : Type*} (s : Finset ι) (y : ι → ℝ) (M e : ℝ) :
    Real.exp (e - M) * (1 / ∑ i ∈ s, Real.exp (y i - M))
      = Real.exp e * (1 / ∑ i ∈ s, Real.exp (y i)) := by
  have h : ∑ i ∈ s, Real.exp (y i - M) = (∑ i ∈ s, Real.exp (y i)) * Real.exp (-M) := by
    rw [sum_mul]
    exact sum_congr rfl fun i _ => by rw [sub_eq_add_neg, Real.exp_add]
  rw [h, sub_eq_add_neg, Real.exp_add, one_div, one_div, mul_inv]
  have hM : Real.exp (-M) * (Real.exp (-M))⁻¹ = 1 := mul_inv_cancel₀ (Real.exp_pos _).ne'
  calc _ = Real.exp e * (∑ i ∈ s, Real.exp (y i))⁻¹ * (Real.exp (-M) * (Real.exp (-M))⁻¹) := by ring
    _ = _ := by rw [hM, mul_one]

end Cert.Sums

end
-- ==== Proof.KVal.lean ====
/- The kernel's values over the extended reals, when its inputs are real numbers: the partial sums,
the accumulator and the result as sums and quotients of real exponentials. -/
module

public import proofs.«01_k».proof.Proof.TcB
public import proofs.«01_k».proof.Proof.Sums
public import Idealize.ShloMosaic.Lib.Pointwise
public import Idealize.ShloMosaic.Lib.IdealHost

@[expose] public section

noncomputable section

namespace Cert.KernelIdeal.Pf

open Cert.KernelIdeal Cert.KernelIdeal.Gen
open Idealize.ShloMosaic
open Finset (range sum_range_succ sum_range_add sum_congr)

/-! ## Sums of reals among the extended reals -/

/-- A finite sum of real numbers, read among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same over the first `n` numbers. -/
theorem coe_sum_fin (n : ℕ) (f : ℕ → ℝ) : ∑ k : Fin n, ((f k.val : ℝ) : EReal) = ((∑ k ∈ range n, f k : ℝ) : EReal) := by
  rw [coe_sum, Fin.sum_univ_eq_sum_range]

/-- The pattern `0x3E000000` is one eighth. -/
theorem bits_eighth : Ideal.ofBits .f32 0x3E000000#32 = (((1 : ℝ) / 8 : ℝ) : EReal) := by
  simp [Ideal.ofBits, Ideal.ieee, -EReal.coe_mul]; norm_num

section
variable (X G : S12500x8x128.Idx → ℝ) (t : ℝ)

/-- The exponential at one place. -/
def wt (i : S12500x8x128.Idx) : ℝ := Real.exp (X i * t + G i)

/-- Column `l` of the exponentials. -/
def col (l v : ℕ) : ℝ := wt X G t (ix3 (v / 8) (v % 8) l)

/-- An array of reals among the extended reals. -/
def up {S : Shape} (A : S.Idx → ℝ) : S.Idx → Ideal .f32 := fun i => ((A i : ℝ) : EReal)

theorem col_at (l b n : ℕ) : col X G t l (8 * b + n) = wt X G t (ix3 (b + n / 8) (n % 8) l) := by
  unfold col
  rw [Nat.mul_add_div (by norm_num), Nat.mul_add_mod]

theorem term_real (b n l : ℕ) : term (F := Ideal) (up X) (up G) (fun _ => (t : EReal)) b n l = ((col X G t l (8 * b + n) : ℝ) : EReal) := by
  rw [col_at]; exact rfl

theorem tAcc_real (b l : ℕ) : ∀ n, tAcc (F := Ideal) (up X) (up G) (fun _ => (t : EReal)) b n l
    = ((∑ m ∈ range n, col X G t l (8 * b + m) : ℝ) : EReal)
  | 0 => by
      rw [Finset.sum_range_zero]; exact Ideal.ofBits_zero_f32
  | n + 1 => by
      rw [sum_range_succ, EReal.coe_add, ← tAcc_real b l n, ← term_real]; exact rfl

theorem part_real (j : S256x128.Idx) : PART (F := Ideal) (up X) (up G) (fun _ => (t : EReal)) j
    = ((∑ m ∈ range 1280, col X G t (j 1).val (8 * (7380 + 160 * ((j 0).val / 8)) + m) : ℝ) : EReal) :=
  tAcc_real X G t _ _ _

/-- One step of the first kernel at an index. -/
theorem pay2_real (n : ℕ) (a : S8x128.Idx → Ideal .f32) (j : S8x128.Idx) :
    k1_pay2 (F := Ideal) (blkA (up X) n) (t : EReal) (blkA (up G) n) a j
      = a j + ((∑ k ∈ range 369, col X G t (j 1).val (8 * (369 * n + k) + (j 0).val) : ℝ) : EReal) := by
  have h0 : (j 0).val < 8 := (j 0).isLt
  unfold k1_pay2
  simp only [shapeCast_self]
  refine congrArg (a j + ·) ((Ideal.multiReduction_add_single _ _ _ _ _ j).trans ?_)
  rw [← coe_sum_fin]
  refine Finset.sum_congr rfl fun k _ => ?_
  rw [col_at, Nat.div_eq_of_lt h0, Nat.mod_eq_of_lt h0]
  exact rfl

theorem accA_real (j : S8x128.Idx) : ∀ n, accA (F := Ideal) (fun _ => (t : EReal)) (up X) (up G) n j
    = ((∑ k ∈ range (369 * (n + 1)), col X G t (j 1).val (8 * k + (j 0).val) : ℝ) : EReal)
  | 0 => by
      refine (pay2_real X G t 0 _ j).trans ?_
      rw [show k1_pay1 (F := Ideal) j = 0 from Ideal.ofBits_zero_f32, zero_add]
      simp
  | n + 1 => by
      refine (pay2_real X G t (n + 1) _ j).trans ?_
      rw [accA_real j n, ← EReal.coe_add, Nat.mul_succ 369 (n + 1), sum_range_add]

end

end Cert.KernelIdeal.Pf

end

end
-- ==== Proof.KRes.lean ====
/- The kernel's result over the extended reals, when its inputs are real numbers: each exponential over
the sum of its column. -/
module

public import proofs.«01_k».proof.Proof.KVal
public import proofs.«01_k».proof.Proof.Regions

@[expose] public section

noncomputable section

namespace Cert.KernelIdeal.Pf

open Cert.KernelIdeal Cert.KernelIdeal.Gen
open Idealize.ShloMosaic
open Finset (range sum_range_succ sum_range_add sum_congr)

variable (X G : S12500x8x128.Idx → ℝ) (t : ℝ)

/-- The sum of column `l`. -/
def colSum (l : ℕ) : ℝ := ∑ v ∈ range 100000, col X G t l v

theorem colSum_pos (l : ℕ) : 0 < colSum X G t l :=
  Finset.sum_pos (fun _ _ => Real.exp_pos _) ⟨0, by simp⟩

/-- Dividing one by a real number which is not zero. -/
theorem one_div_real (c : ℝ) (hc : c ≠ 0) : Ideal.div 1 (c : EReal) = ((1 / c : ℝ) : EReal) := by
  rw [Ideal.div_coe hc, one_mul]

/-- The total in the second kernel, at lane `l`. -/
theorem total_real (P : S256x128.Idx → EReal) (A : S8x128.Idx → EReal)
    (hP : ∀ j, P j = ((∑ m ∈ range 1280, col X G t (j 1).val (8 * (7380 + 160 * ((j 0).val / 8)) + m) : ℝ) : EReal))
    (hA : ∀ j, A j = ((∑ k ∈ range 7380, col X G t (j 1).val (8 * k + (j 0).val) : ℝ) : EReal)) (l : Fin 128) :
    (∑ r : Fin 256, P (ix2 r l)) * Ideal.ofBits .f32 0x3E000000#32 + ∑ s : Fin 8, A (ix2 s l) = ((colSum X G t l.val : ℝ) : EReal) := by
  rw [bits_eighth]
  simp only [hP, hA]
  refine (congrArg₂ (fun a b : EReal => a * _ + b)
    (coe_sum_fin 256 fun r => ∑ m ∈ range 1280, col X G t l.val (8 * (7380 + 160 * (r / 8)) + m))
    (coe_sum_fin 8 fun s => ∑ k ∈ range 7380, col X G t l.val (8 * k + s))).trans ?_
  rw [← EReal.coe_mul, ← EReal.coe_add, Sums.column]
  rfl

/-- What the second kernel stores, at an index of its block. -/
theorem pay_real (P : S256x128.Idx → Ideal .f32) (A : S8x128.Idx → Ideal .f32)
    (hP : ∀ j, P j = ((∑ m ∈ range 1280, col X G t (j 1).val (8 * (7380 + 160 * ((j 0).val / 8)) + m) : ℝ) : EReal))
    (hA : ∀ j, A j = ((∑ k ∈ range 7380, col X G t (j 1).val (8 * k + (j 0).val) : ℝ) : EReal))
    (x g : S625x8x128.Idx → Ideal .f32) (j : S625x8x128.Idx) :
    k2_pay1 (F := Ideal) P A x (t : EReal) g j = Ideal.exp (x j * (t : EReal) + g j) * ((1 / colSum X G t (j 2).val : ℝ) : EReal) := by
  unfold k2_pay1
  simp only [shapeCast_self]
  refine congrArg (Ideal.exp (x j * (t : EReal) + g j) * ·) ?_
  rw [Pointwise.broadcastTo_apply]
  pointwise
  rw [← one_div_real _ (colSum_pos X G t _).ne']
  exact congrArg (Ideal.div 1) (total_real X G t P A hP hA _)

/-- The result at an index. -/
theorem res_real (i : S12500x8x128.Idx) :
    resB (F := Ideal) (PART (F := Ideal) (up X) (up G) (fun _ => (t : EReal))) (accA (F := Ideal) (fun _ => (t : EReal)) (up X) (up G) 19) (fun _ => (t : EReal)) (up X) (up G) i
      = ((wt X G t i * (1 / colSum X G t (i 2).val) : ℝ) : EReal) := by
  have h0 : (i 0).val < 12500 := (i 0).isLt
  have h1 : (i 1).val < 8 := (i 1).isLt
  have h2 : (i 2).val < 128 := (i 2).isLt
  have hi : ix3 (625 * ((i 0).val / 625) + (ixC ((i 0).val % 625) (i 1).val (i 2).val 0).val)
      (ixC ((i 0).val % 625) (i 1).val (i 2).val 1).val (ixC ((i 0).val % 625) (i 1).val (i 2).val 2).val = i := by
    funext a
    match a with
    | 0 => exact Fin.ext (show (625 * ((i 0).val / 625) + (i 0).val % 625 % 625) % 12500 = (i 0).val by omega)
    | 1 => exact Fin.ext (show (i 1).val % 8 % 8 = (i 1).val by omega)
    | 2 => exact Fin.ext (show (i 2).val % 128 % 128 = (i 2).val by omega)
  unfold resB outB
  refine (pay_real X G t _ _ (part_real X G t) (fun j => accA_real X G t j 19) _ _ _).trans ?_
  unfold blkB
  rw [hi, show (ixC ((i 0).val % 625) (i 1).val (i 2).val 2).val = (i 2).val from Nat.mod_eq_of_lt h2, EReal.coe_mul]
  exact rfl

end Cert.KernelIdeal.Pf

end

end
-- ==== Proof.KOut.lean ====
/- The kernel's last buffer over the extended reals, from its arguments. -/
module

public import proofs.«01_k».proof.Proof.KRes
public import proofs.«01_k».proof.Proof.Main

@[expose] public section

noncomputable section

namespace Cert.KernelIdeal.Out

open Cert.KernelIdeal Cert.KernelIdeal.Gen
open Idealize.ShloMosaic
open Cert.KernelIdeal.Pf hiding ix3

variable (L : S128x100000.Idx → ℝ)

/-- The array as the kernel lays it out: columns first, eight to a tile row. -/
def lay (i : S12500x8x128.Idx) : ℝ :=
  L (ix2 (i 2) ⟨(i 0).val * 8 + (i 1).val, by
    have h0 : (i 0).val < 12500 := (i 0).isLt
    have h1 : (i 1).val < 8 := (i 1).isLt
    omega⟩)

variable (m : (ℓ : Loc nD τ sig) → Buf (Elt Ideal) ℓ) (d : Dev nD)

theorem xV_real (h : m (d, Proc.devRef .tc main_arg0) = (up L : S128x100000.Idx → Ideal .f32)) : xV m d = up (lay L) := by
  unfold xV VA ops1
  after_results
  rw [h]
  funext i
  idx_vars i
  pointwise
  exact rfl

theorem gV_real (h : m (d, Proc.devRef .tc main_arg2) = (up L : S128x100000.Idx → Ideal .f32)) : gV m d = up (lay L) := by
  unfold gV VA ops1
  after_results
  rw [h]
  funext i
  idx_vars i
  pointwise
  exact rfl

theorem sV_real (t : ℝ) (h : m (d, Proc.devRef .tc main_arg1) = (fun _ => (t : EReal) : S_.Idx → Ideal .f32)) :
    sV m d = fun _ => ((Real.exp t : ℝ) : EReal) := by
  unfold sV VA ops1
  after_results
  rw [h]
  funext i
  exact rfl

theorem eV_real (t : ℝ) (h : m (d, Proc.devRef .tc main_arg1) = (fun _ => (t : EReal) : S_.Idx → Ideal .f32)) :
    eV m d = fun _ => ((Real.exp t : ℝ) : EReal) := by
  unfold eV VA ops1
  after_results
  rw [h]
  funext i
  exact rfl

theorem out_read (r : S12500x8x128.Idx → EReal) (h : R10 m d = r) (b : Fin 128) (v : Fin 100000) :
    (VC m d (Proc.devRef .tc main_v12) : S128x100000.Idx → EReal) (ix2 b v)
      = r (ix3 ⟨v.val / 8, by omega⟩ ⟨v.val % 8, by omega⟩ b) := by
  unfold VC ops2
  after_results
  rw [VB_10, h]
  pointwise

/-- The number whose exponential is taken. -/
def arg (L G : S128x100000.Idx → ℝ) (t : ℝ) (b : Fin 128) (v : Fin 100000) : ℝ := L (ix2 b v) * Real.exp t + G (ix2 b v)

theorem lay_at (L : S128x100000.Idx → ℝ) (b v : ℕ) (hb : b < 128) (hv : v < 100000) :
    lay L (Pf.ix3 (v / 8) (v % 8) b) = L (ix2 ⟨b, hb⟩ ⟨v, hv⟩) := by
  unfold lay
  refine congrArg₂ (fun x y => L (ix2 x y)) (Fin.ext (Nat.mod_eq_of_lt hb)) (Fin.ext ?_)
  change (v / 8) % 12500 * 8 + v % 8 % 8 = v
  omega

theorem colSum_real (L G : S128x100000.Idx → ℝ) (t : ℝ) (b : Fin 128) :
    colSum (lay L) (lay G) (Real.exp t) b.val = ∑ v : Fin 100000, Real.exp (arg L G t b v) := by
  unfold colSum
  rw [← Fin.sum_univ_eq_sum_range]
  refine Finset.sum_congr rfl fun v _ => ?_
  unfold col wt arg
  rw [lay_at L _ _ b.isLt v.isLt, lay_at G _ _ b.isLt v.isLt]

/-- The kernel's result from real inputs. -/
theorem out_real (L G : S128x100000.Idx → ℝ) (t : ℝ)
    (h0 : m (d, Proc.devRef .tc main_arg0) = (up L : S128x100000.Idx → Ideal .f32))
    (h1 : m (d, Proc.devRef .tc main_arg1) = (fun _ => (t : EReal) : S_.Idx → Ideal .f32))
    (h2 : m (d, Proc.devRef .tc main_arg2) = (up G : S128x100000.Idx → Ideal .f32)) (b : Fin 128) (v : Fin 100000) :
    (VC m d (Proc.devRef .tc main_v12) : S128x100000.Idx → EReal) (ix2 b v)
      = ((Real.exp (arg L G t b v) * (1 / ∑ v' : Fin 100000, Real.exp (arg L G t b v')) : ℝ) : EReal) := by
  have hr : R10 m d = fun i => ((wt (lay L) (lay G) (Real.exp t) i * (1 / colSum (lay L) (lay G) (Real.exp t) (i 2).val) : ℝ) : EReal) := by
    funext i
    unfold R10 R8 R9
    rw [xV_real L m d h0, gV_real G m d h2, sV_real m d t h1, eV_real m d t h1]
    exact res_real _ _ _ i
  rw [out_read m d _ hr b v]
  have hi : (ix3 ⟨v.val / 8, by omega⟩ ⟨v.val % 8, by omega⟩ b : S12500x8x128.Idx) = Pf.ix3 (v.val / 8) (v.val % 8) b.val := by
    funext a
    match a with
    | 0 => exact Fin.ext (show v.val / 8 = v.val / 8 % 12500 by omega)
    | 1 => exact Fin.ext (show v.val % 8 = v.val % 8 % 8 by omega)
    | 2 => exact Fin.ext (show b.val = b.val % 128 by omega)
  change ((wt _ _ _ (ix3 ⟨v.val / 8, _⟩ ⟨v.val % 8, _⟩ b) * (1 / colSum _ _ _ b.val) : ℝ) : EReal) = _
  rw [hi, colSum_real]
  unfold wt arg
  rw [lay_at L _ _ b.isLt v.isLt, lay_at G _ _ b.isLt v.isLt]

end Cert.KernelIdeal.Out

end

end
-- ==== Proof.RVal.lean ====
/- The reference's result over the extended reals, when its inputs are real numbers: the softmax of each row. -/
module

public import proofs.«01_k».proof.Proof.Gen.ReferenceIdeal.Run
public import proofs.«01_k».proof.Proof.Sums
public import Idealize.ShloMosaic.Lib.Pointwise
public import Idealize.ShloMosaic.Lib.IdealHost

@[expose] public section

noncomputable section

namespace Cert.ReferenceIdeal.Ref

open Cert.ReferenceIdeal Cert.ReferenceIdeal.Gen
open Idealize.ShloMosaic
open Facts

/-- The reference's exponents. -/
def expo (a0 : FVec Ideal S128x100000 .f32) (a1 : FVec Ideal S_ .f32) (a2 : FVec Ideal S128x100000 .f32) : FVec Ideal S128x100000 .f32 :=
  Host.divf (addf (mulf a0 (broadcastInDim S128x100000 ![] bcast_S_S128x100000 (Host.exp a1))) a2)
    (broadcastInDim S128x100000 ![] bcast_S_S128x100000 (constant S_ .f32 0x3F800000#32))

/-- The exponents less their row's greatest. -/
def shifted (y : FVec Ideal S128x100000 .f32) : FVec Ideal S128x100000 .f32 :=
  subf y (broadcastInDim S128x100000 ![0, 1] bcast_S128x1_S128x100000_0_1 (broadcastInDim S128x1 ![0] bcast_S128_S128x1_0
    (maximumf (broadcastInDim S128 ![] bcast_S_S128 (constant S_ .f32 0xFF800000#32))
      (Host.reduce FloatOps.maximumf y (constant S_ .f32 0xFF800000#32) reducesTo_S128x100000_S128_d1 h_S_))))

/-- Exponentials over their row's sum. -/
def norm (z : FVec Ideal S128x100000 .f32) : FVec Ideal S128x100000 .f32 :=
  Host.divf (Host.exp z) (broadcastInDim S128x100000 ![0, 1] bcast_S128x1_S128x100000_0_1 (broadcastInDim S128x1 ![0] bcast_S128_S128x1_0
    (Host.reduceAdd (Host.exp z) (constant S_ .f32 0x00000000#32) reducesTo_S128x100000_S128_d1 h_S_)))

/-- The greatest of at least one real number, started from `⊥`, is a real number. -/
theorem fold_max_real {ι : Type*} (s : Finset ι) (f : ι → ℝ) (hs : s.Nonempty) :
    ∃ M : ℝ, s.fold max (⊥ : EReal) (fun i => ((f i : ℝ) : EReal)) = (M : EReal) := by
  classical
  induction hs using Finset.Nonempty.cons_induction with
  | singleton a => exact ⟨f a, by simp⟩
  | cons a s ha hs ih =>
      obtain ⟨M, hM⟩ := ih
      exact ⟨max (f a) M, by rw [Finset.fold_cons, hM]; exact (EReal.coe_strictMono.monotone.map_max).symm⟩

/-- A finite sum of real numbers, read among the extended reals. -/
theorem sum_real {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem bits_neg_inf : Ideal.ofBits .f32 0xFF800000#32 = ⊥ := by
  simp [Ideal.ofBits, Ideal.ieee]

theorem expo_real (L G : S128x100000.Idx → ℝ) (t : ℝ) (a0 a2 : FVec Ideal S128x100000 .f32) (a1 : FVec Ideal S_ .f32)
    (h0 : ∀ i, a0 i = ((L i : ℝ) : EReal)) (h1 : ∀ i, a1 i = (t : EReal)) (h2 : ∀ i, a2 i = ((G i : ℝ) : EReal)) (i : S128x100000.Idx) :
    expo a0 a1 a2 i = ((L i * Real.exp t + G i : ℝ) : EReal) := by
  have he : (Host.exp a1 : FVec Ideal S_ .f32) = fun _ => ((Real.exp t : ℝ) : EReal) := by
    funext k
    change Ideal.exp (a1 k) = _
    rw [h1]; exact rfl
  unfold expo
  rw [he]
  change Ideal.div (a0 i * ((Real.exp t : ℝ) : EReal) + a2 i) (Ideal.ofBits .f32 0x3F800000#32) = _
  rw [Ideal.ofBits_one_f32, h0, h2, ← EReal.coe_mul, ← EReal.coe_add, show (1 : EReal) = ((1 : ℝ) : EReal) from rfl, Ideal.div_coe one_ne_zero,
    ← EReal.coe_mul, div_one, mul_one]

/-- A row's greatest, at any sizes. -/
theorem row_max {n0 n1 : ℕ} {u : Shape} (y : FVec Ideal ⟨2, ![n0, n1]⟩ .f32) (init : u.Idx → EReal)
    (h : (⟨2, ![n0, n1]⟩ : Shape).ReducesTo [1] ⟨1, ![n0]⟩) (hu : 0 < u.numel) (b : Fin n0) :
    Host.reduce (FloatOps.maximumf (F := Ideal) (φ := .f32)) y init h hu (ix1 b)
      = Finset.univ.fold max (init (Shape.Idx.first hu)) (fun v : Fin n1 => (y (ix2 b v) : EReal)) := by
  pointwise

theorem shifted_of (y : FVec Ideal S128x100000 .f32) (r : FVec Ideal S128 .f32)
    (hr : Host.reduce FloatOps.maximumf y (constant S_ .f32 0xFF800000#32) reducesTo_S128x100000_S128_d1 h_S_ = r) (b : Fin 128) (v : Fin 100000) :
    shifted y (ix2 b v) = (y (ix2 b v) : EReal) - max ⊥ (r (ix1 b)) := by
  unfold shifted
  rw [hr]
  pointwise
  rw [bits_neg_inf]

theorem shifted_real (y : FVec Ideal S128x100000 .f32) (Y : Fin 128 → Fin 100000 → ℝ) (hy : ∀ b v, y (ix2 b v) = ((Y b v : ℝ) : EReal)) (b : Fin 128) :
    ∃ M : ℝ, ∀ v, shifted y (ix2 b v) = ((Y b v - M : ℝ) : EReal) := by
  obtain ⟨M, hM⟩ := fold_max_real (Finset.univ : Finset (Fin 100000)) (Y b) ⟨⟨0, by norm_num⟩, Finset.mem_univ _⟩
  refine ⟨M, fun v => ?_⟩
  obtain ⟨r, hr⟩ : ∃ r, Host.reduce FloatOps.maximumf y (constant S_ .f32 0xFF800000#32) reducesTo_S128x100000_S128_d1 h_S_ = r := ⟨_, rfl⟩
  have hb : r (ix1 b) = (M : EReal) := by
    rw [← hr, ← hM, row_max]
    simp only [hy]
    congr 1
  rw [shifted_of y r hr, hb, hy, max_eq_right bot_le, EReal.coe_sub]

theorem norm_of (z : FVec Ideal S128x100000 .f32) (Z : Fin 100000 → ℝ) (b : Fin 128) (hz : ∀ v, z (ix2 b v) = ((Z v : ℝ) : EReal)) (v : Fin 100000) :
    norm z (ix2 b v) = Ideal.div (Ideal.exp ((Z v : ℝ) : EReal)) (∑ v', Ideal.exp ((Z v' : ℝ) : EReal)) := by
  unfold norm
  pointwise
  simp only [hz]

theorem norm_real (z : FVec Ideal S128x100000 .f32) (Z : Fin 100000 → ℝ) (b : Fin 128) (hz : ∀ v, z (ix2 b v) = ((Z v : ℝ) : EReal)) (v : Fin 100000) :
    norm z (ix2 b v) = ((Real.exp (Z v) * (1 / ∑ v', Real.exp (Z v')) : ℝ) : EReal) := by
  have hs : ∑ v', Ideal.exp ((Z v' : ℝ) : EReal) = ((∑ v', Real.exp (Z v') : ℝ) : EReal) := sum_real Finset.univ fun v' => Real.exp (Z v')
  have hp : 0 < ∑ v', Real.exp (Z v') := Finset.sum_pos (fun _ _ => Real.exp_pos _) ⟨v, Finset.mem_univ _⟩
  rw [norm_of z Z b hz v, hs, Ideal.div_coe hp.ne', EReal.coe_mul]
  exact rfl

/-- The reference's result from real inputs. -/
theorem ref_real (L G : S128x100000.Idx → ℝ) (t : ℝ) (a0 a2 : FVec Ideal S128x100000 .f32) (a1 : FVec Ideal S_ .f32)
    (h0 : ∀ i, a0 i = ((L i : ℝ) : EReal)) (h1 : ∀ i, a1 i = (t : EReal)) (h2 : ∀ i, a2 i = ((G i : ℝ) : EReal)) (b : Fin 128) (v : Fin 100000) :
    norm (shifted (expo a0 a1 a2)) (ix2 b v)
      = ((Real.exp (L (ix2 b v) * Real.exp t + G (ix2 b v)) * (1 / ∑ v', Real.exp (L (ix2 b v') * Real.exp t + G (ix2 b v'))) : ℝ) : EReal) := by
  obtain ⟨M, hM⟩ := shifted_real (expo a0 a1 a2) (fun b v => L (ix2 b v) * Real.exp t + G (ix2 b v))
    (fun b v => expo_real L G t a0 a2 a1 h0 h1 h2 (ix2 b v)) b
  rw [norm_real _ _ b hM v, Sums.softmax_shift]

end Cert.ReferenceIdeal.Ref

end

end
-- ==== Proof.PreReal.lean ====
/- What the precondition says over the extended reals: every entry of the three inputs is a real number. -/
module

public import proofs.«01_k».proof.Proof.Gen.Pre_finite
public import Idealize.ShloMosaic.Lib.ReduceAll
public import Idealize.ShloMosaic.Lib.IdealHost

@[expose] public section

noncomputable section

namespace Cert.Pre_finite.Real

open Cert.Pre_finite Cert.Pre_finite.Gen
open Idealize.ShloMosaic
open Facts

theorem bits_inf : Ideal.ofBits .f32 0x7F800000#32 = ⊤ := by
  simp [Ideal.ofBits, Ideal.ieee]

/-- A number whose absolute value is below infinity is real. -/
theorem real_of_abs_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [bits_inf] at h
  induction x using EReal.rec with
  | coe r => exact ⟨r, rfl⟩
  | bot => exact absurd h (by simp [Ideal.cmpf_def, Ideal.cmp, Ideal.absf_def])
  | top => exact absurd h (by simp [Ideal.cmpf_def, Ideal.cmp, Ideal.absf_def])

theorem reals (a0 : FVec Ideal S128x100000 .f32) (a1 : FVec Ideal S_ .f32) (a2 : FVec Ideal S128x100000 .f32)
    (h : fn (F := Ideal) a0 a1 a2 = fun _ => 1#1) :
    ∃ (L G : S128x100000.Idx → ℝ) (t : ℝ), (∀ i, a0 i = ((L i : ℝ) : EReal)) ∧ (∀ i, a1 i = (t : EReal)) ∧ (∀ i, a2 i = ((G i : ℝ) : EReal)) := by
  let o : S_.Idx := fun k => k.elim0
  have hj := congrFun h o
  dsimp only [fn] at hj
  obtain ⟨h01, h2⟩ := IntOp.andi_eq_one.1 hj
  obtain ⟨h0, h1⟩ := IntOp.andi_eq_one.1 h01
  haveI : Subsingleton S_.Idx := ⟨fun a b => funext fun k => k.elim0⟩
  have r0 : ∀ i, ∃ r : ℝ, a0 i = (r : EReal) := fun i => real_of_abs_lt _ (Host.reduce_andi_all _ _ _ _ _ h0 i)
  have r2 : ∀ i, ∃ r : ℝ, a2 i = (r : EReal) := fun i => real_of_abs_lt _ (Host.reduce_andi_all _ _ _ _ _ h2 i)
  obtain ⟨t, ht⟩ : ∃ r : ℝ, a1 o = (r : EReal) := real_of_abs_lt _ h1
  choose L hL using r0
  choose G hG using r2
  exact ⟨L, G, t, hL, fun i => by rw [Subsingleton.elim i o, ht], hG⟩

end Cert.Pre_finite.Real

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Gen.ReferenceIdeal.Run
public import proofs.«01_k».proof.Proof.Same
public import proofs.«01_k».proof.Proof.KOut
public import proofs.«01_k».proof.Proof.RVal
public import proofs.«01_k».proof.Proof.PreReal
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ => frame_any (F := Ideal) m ρ
theorem frame_ideal_pre : Cert.quiescent_KernelIdeal_pre_finite := fun m ρ _ => frame_any (F := Ideal) m ρ

/-- The reference declares no semaphore, so none can read anything but zero. -/
theorem frame_reference : Cert.quiescent_ReferenceIdeal := fun m ρ _ =>
  (θ_run Cert.ReferenceIdeal.defs _ _).mono (fun _ h => ⟨fun c => (h c).2, Idealize.ShloMosaic.sem_eq_zero_of_no_sems (by decide) _⟩) (Cert.ReferenceIdeal.Value.run (F := Ideal) m ρ)
theorem frame_reference_pre : Cert.quiescent_ReferenceIdeal_pre_finite := fun m ρ _ => frame_reference m ρ trivial

/-- The two results are equal, entry by entry, on real inputs. -/
theorem value (m : (ℓ : Loc Cert.KernelIdeal.nD Cert.KernelIdeal.τ Cert.KernelIdeal.sig) → Buf (Elt Ideal) ℓ) (hm : Pre_KernelIdeal_finite m) (c : Dev Cert.KernelIdeal.nD) :
    Cert.ReferenceIdeal.Ref.norm (Cert.ReferenceIdeal.Ref.shifted (Cert.ReferenceIdeal.Ref.expo
        (m (c, Proc.devRef .tc Cert.KernelIdeal.main_arg0)) (m (c, Proc.devRef .tc Cert.KernelIdeal.main_arg1)) (m (c, Proc.devRef .tc Cert.KernelIdeal.main_arg2))))
      = Cert.KernelIdeal.Pf.VC m c (Proc.devRef .tc Cert.KernelIdeal.main_v12) := by
  obtain ⟨L, G, t, h0, h1, h2⟩ := Cert.Pre_finite.Real.reals _ _ _ (hm c)
  funext i
  obtain ⟨b, v, rfl⟩ : ∃ (b : Fin 128) (v : Fin 100000), i = ix2 b v := ⟨i 0, i 1, eq_ix2 i⟩
  exact (Cert.ReferenceIdeal.Ref.ref_real L G t _ _ _ h0 h1 h2 b v).trans
    (Cert.KernelIdeal.Out.out_real m c L G t (funext h0) (funext h1) (funext h2) b v).symm

theorem algebraic : Cert.algebraic_KernelIdeal_ReferenceIdeal_pre_finite := fun m g m' g' hm hag =>
  ⟨fun c => Cert.KernelIdeal.Pf.VC m c (Proc.devRef .tc Cert.KernelIdeal.main_v12),
    (θ_run (Cert.KernelIdeal.defs (F := Ideal)) _ _).mono (fun _ h => h.1) (Cert.KernelIdeal.Pf.run_main m g),
    (θ_run (Cert.ReferenceIdeal.defs (F := Ideal)) _ _).mono (fun _ h c => ⟨(h c).1.trans (by
      rw [(hag c).1, (hag c).2.1, (hag c).2.2]
      exact value m hm c), (h c).2⟩) (Cert.ReferenceIdeal.Value.run (F := Ideal) m' g')⟩

theorem claim : Cert.Claim := ⟨Cert.Kernel.Gen.facts, Cert.KernelIdeal.Gen.facts, Cert.ReferenceIdeal.Gen.facts, Cert.Pre_finite.Gen.facts,
  frame_kernel, frame_ideal, frame_ideal_pre, frame_reference, frame_reference_pre, trivial, algebraic⟩

end Cert.Proof

end
